-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "sqrt_d" .f32 0x41DDB3D7#32 ((Real.sqrt 768 : ℝ) : EReal)

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S4x4096x1 : Shape := ⟨3, ![4, 4096, 1]⟩
abbrev S4x4096 : Shape := ⟨2, ![4, 4096]⟩
abbrev S768x1 : Shape := ⟨2, ![768, 1]⟩
abbrev S768 : Shape := ⟨1, ![768]⟩
abbrev S5x768 : Shape := ⟨2, ![5, 768]⟩
abbrev S2x768 : Shape := ⟨2, ![2, 768]⟩
abbrev S6x768 : Shape := ⟨2, ![6, 768]⟩
abbrev S_ : Shape := ⟨0, ![]⟩

class Facts : Prop where
  bcast_S_S4x4096 : S_.BroadcastsInDim S4x4096 (![] : Fin 0 → Fin S4x4096.rank)
  bcast_S_S4x4096x1 : S_.BroadcastsInDim S4x4096x1 (![] : Fin 0 → Fin S4x4096x1.rank)
  bcast_S_S768x1 : S_.BroadcastsInDim S768x1 (![] : Fin 0 → Fin S768x1.rank)
  bcast_S_S768 : S_.BroadcastsInDim S768 (![] : Fin 0 → Fin S768.rank)
  bcast_S_S5x768 : S_.BroadcastsInDim S5x768 (![] : Fin 0 → Fin S5x768.rank)
  bcast_S_S2x768 : S_.BroadcastsInDim S2x768 (![] : Fin 0 → Fin S2x768.rank)
  bcast_S_S6x768 : S_.BroadcastsInDim S6x768 (![] : Fin 0 → Fin S6x768.rank)

variable [Facts]

def fn_part2 {F : FTy → Type} [FloatOps F] (main_arg9 : FVec F S6x768 .f32) (main_arg10 : FVec F S2x768 .f32) (main_v4 : IVec S4x4096 1) (main_v9 : IVec S4x4096 1) (main_v14 : IVec S4x4096 1) (main_v19 : IVec S4x4096 1) (main_v22 : IVec S4x4096x1 1) (main_v25 : IVec S768x1 1) (main_v28 : IVec S768 1) (main_v31 : IVec S5x768 1) (main_v34 : IVec S2x768 1) : IVec S4x4096 1 × IVec S4x4096 1 × IVec S4x4096 1 × IVec S4x4096 1 × IVec S4x4096x1 1 × IVec S768x1 1 × IVec S768 1 × IVec S5x768 1 × IVec S2x768 1 × IVec S6x768 1 × IVec S2x768 1 :=
  let main_v35 : FVec F S6x768 .f32 := Host.absf main_arg9
  let main_cst_11 : FVec F S_ .f32 := constant S_ .f32 0x7F800000#32
  let main_v36 : FVec F S6x768 .f32 := broadcastInDim S6x768 ![] bcast_S_S6x768 main_cst_11
  let main_v37 : IVec S6x768 1 := cmpf .olt main_v35 main_v36
  let main_v38 : FVec F S2x768 .f32 := Host.absf main_arg10
  let main_cst_12 : FVec F S_ .f32 := constant S_ .f32 0x7F800000#32
  let main_v39 : FVec F S2x768 .f32 := broadcastInDim S2x768 ![] bcast_S_S2x768 main_cst_12
  let main_v40 : IVec S2x768 1 := cmpf .olt main_v38 main_v39
  (main_v4, main_v9, main_v14, main_v19, main_v22, main_v25, main_v28, main_v31, main_v34, main_v37, main_v40)

def fn_part1 {F : FTy → Type} [FloatOps F] (main_arg0 : FVec F S4x4096x1 .f32) (main_arg4 : IVec S4x4096 32) (main_arg5 : FVec F S768x1 .f32) (main_arg6 : FVec F S768 .f32) (main_arg7 : FVec F S5x768 .f32) (main_arg8 : FVec F S2x768 .f32) (main_arg9 : FVec F S6x768 .f32) (main_arg10 : FVec F S2x768 .f32) (main_v4 : IVec S4x4096 1) (main_v9 : IVec S4x4096 1) (main_v14 : IVec S4x4096 1) (main_v16 : IVec S4x4096 1) : IVec S4x4096 1 × IVec S4x4096 1 × IVec S4x4096 1 × IVec S4x4096 1 × IVec S4x4096x1 1 × IVec S768x1 1 × IVec S768 1 × IVec S5x768 1 × IVec S2x768 1 × IVec S6x768 1 × IVec S2x768 1 :=
  let main_c_6 : IVec S_ 32 := constantI S_ 32 2#32
  let main_v17 : IVec S4x4096 32 := broadcastInDim S4x4096 ![] bcast_S_S4x4096 main_c_6
  let main_v18 : IVec S4x4096 1 := cmpi .slt main_arg4 main_v17
  let main_v19 : IVec S4x4096 1 := andi main_v16 main_v18
  let main_v20 : FVec F S4x4096x1 .f32 := Host.absf main_arg0
  let main_cst : FVec F S_ .f32 := constant S_ .f32 0x7F800000#32
  let main_v21 : FVec F S4x4096x1 .f32 := broadcastInDim S4x4096x1 ![] bcast_S_S4x4096x1 main_cst
  let main_v22 : IVec S4x4096x1 1 := cmpf .olt main_v20 main_v21
  let main_v23 : FVec F S768x1 .f32 := Host.absf main_arg5
  let main_cst_7 : FVec F S_ .f32 := constant S_ .f32 0x7F800000#32
  let main_v24 : FVec F S768x1 .f32 := broadcastInDim S768x1 ![] bcast_S_S768x1 main_cst_7
  let main_v25 : IVec S768x1 1 := cmpf .olt main_v23 main_v24
  let main_v26 : FVec F S768 .f32 := Host.absf main_arg6
  let main_cst_8 : FVec F S_ .f32 := constant S_ .f32 0x7F800000#32
  let main_v27 : FVec F S768 .f32 := broadcastInDim S768 ![] bcast_S_S768 main_cst_8
  let main_v28 : IVec S768 1 := cmpf .olt main_v26 main_v27
  let main_v29 : FVec F S5x768 .f32 := Host.absf main_arg7
  let main_cst_9 : FVec F S_ .f32 := constant S_ .f32 0x7F800000#32
  let main_v30 : FVec F S5x768 .f32 := broadcastInDim S5x768 ![] bcast_S_S5x768 main_cst_9
  let main_v31 : IVec S5x768 1 := cmpf .olt main_v29 main_v30
  let main_v32 : FVec F S2x768 .f32 := Host.absf main_arg8
  let main_cst_10 : FVec F S_ .f32 := constant S_ .f32 0x7F800000#32
  let main_v33 : FVec F S2x768 .f32 := broadcastInDim S2x768 ![] bcast_S_S2x768 main_cst_10
  let main_v34 : IVec S2x768 1 := cmpf .olt main_v32 main_v33
  fn_part2 (F := F) main_arg9 main_arg10 main_v4 main_v9 main_v14 main_v19 main_v22 main_v25 main_v28 main_v31 main_v34

def fn {F : FTy → Type} [FloatOps F] (main_arg0 : FVec F S4x4096x1 .f32) (main_arg1 : IVec S4x4096 32) (main_arg2 : IVec S4x4096 32) (main_arg3 : IVec S4x4096 32) (main_arg4 : IVec S4x4096 32) (main_arg5 : FVec F S768x1 .f32) (main_arg6 : FVec F S768 .f32) (main_arg7 : FVec F S5x768 .f32) (main_arg8 : FVec F S2x768 .f32) (main_arg9 : FVec F S6x768 .f32) (main_arg10 : FVec F S2x768 .f32) (main_arg11 : FVec F S768 .f32) (main_arg12 : FVec F S768 .f32) : IVec S4x4096 1 × IVec S4x4096 1 × IVec S4x4096 1 × IVec S4x4096 1 × IVec S4x4096x1 1 × IVec S768x1 1 × IVec S768 1 × IVec S5x768 1 × IVec S2x768 1 × IVec S6x768 1 × IVec S2x768 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 32 := constantI S_ 32 5#32
  let main_v2 : IVec S4x4096 32 := broadcastInDim S4x4096 ![] bcast_S_S4x4096 main_c_0
  let main_v3 : IVec S4x4096 1 := cmpi .slt main_arg1 main_v2
  let main_v4 : IVec S4x4096 1 := andi main_v1 main_v3
  let main_c_1 : IVec S_ 32 := constantI S_ 32 0#32
  let main_v5 : IVec S4x4096 32 := broadcastInDim S4x4096 ![] bcast_S_S4x4096 main_c_1
  let main_v6 : IVec S4x4096 1 := cmpi .sge main_arg2 main_v5
  let main_c_2 : IVec S_ 32 := constantI S_ 32 2#32
  let main_v7 : IVec S4x4096 32 := broadcastInDim S4x4096 ![] bcast_S_S4x4096 main_c_2
  let main_v8 : IVec S4x4096 1 := cmpi .slt main_arg2 main_v7
  let main_v9 : IVec S4x4096 1 := andi main_v6 main_v8
  let main_c_3 : IVec S_ 32 := constantI S_ 32 0#32
  let main_v10 : IVec S4x4096 32 := broadcastInDim S4x4096 ![] bcast_S_S4x4096 main_c_3
  let main_v11 : IVec S4x4096 1 := cmpi .sge main_arg3 main_v10
  let main_c_4 : IVec S_ 32 := constantI S_ 32 6#32
  let main_v12 : IVec S4x4096 32 := broadcastInDim S4x4096 ![] bcast_S_S4x4096 main_c_4
  let main_v13 : IVec S4x4096 1 := cmpi .slt main_arg3 main_v12
  let main_v14 : IVec S4x4096 1 := andi main_v11 main_v13
  let main_c_5 : IVec S_ 32 := constantI S_ 32 0#32
  let main_v15 : IVec S4x4096 32 := broadcastInDim S4x4096 ![] bcast_S_S4x4096 main_c_5
  let main_v16 : IVec S4x4096 1 := cmpi .sge main_arg4 main_v15
  fn_part1 (F := F) main_arg0 main_arg4 main_arg5 main_arg6 main_arg7 main_arg8 main_arg9 main_arg10 main_v4 main_v9 main_v14 main_v16
-- ==== Kernel.lean ====
abbrev S4x4096x1 : Shape := ⟨3, ![4, 4096, 1]⟩
abbrev S4x4096 : Shape := ⟨2, ![4, 4096]⟩
abbrev S768x1 : Shape := ⟨2, ![768, 1]⟩
abbrev S768 : Shape := ⟨1, ![768]⟩
abbrev S5x768 : Shape := ⟨2, ![5, 768]⟩
abbrev S2x768 : Shape := ⟨2, ![2, 768]⟩
abbrev S6x768 : Shape := ⟨2, ![6, 768]⟩
abbrev S384 : Shape := ⟨1, ![384]⟩
abbrev S_ : Shape := ⟨0, ![]⟩
abbrev S384x2 : Shape := ⟨2, ![384, 2]⟩
abbrev S512 : Shape := ⟨1, ![512]⟩
abbrev S512x1 : Shape := ⟨2, ![512, 1]⟩
abbrev S1x768 : Shape := ⟨2, ![1, 768]⟩
abbrev S512x768 : Shape := ⟨2, ![512, 768]⟩
abbrev S8 : Shape := ⟨1, ![8]⟩
abbrev S8x1 : Shape := ⟨2, ![8, 1]⟩
abbrev S8x768 : Shape := ⟨2, ![8, 768]⟩
abbrev S16x768 : Shape := ⟨2, ![16, 768]⟩
abbrev S1x4x4096 : Shape := ⟨3, ![1, 4, 4096]⟩
abbrev S4x4096x768 : Shape := ⟨3, ![4, 4096, 768]⟩
abbrev S4x512x768 : Shape := ⟨3, ![4, 512, 768]⟩
abbrev S16x512 : Shape := ⟨2, ![16, 512]⟩
abbrev S1x1x512 : Shape := ⟨3, ![1, 1, 512]⟩
abbrev S1x512 : Shape := ⟨2, ![1, 512]⟩
abbrev S1x512x768 : Shape := ⟨3, ![1, 512, 768]⟩

abbrev nBuf : Space → Nat
  | .hbm => 101
  | .vmem => 12
  | .smem => 0
  | _ => 0

abbrev bufTy : (tb : Table) → Fin (tcTables nBuf tb) → BufTy
  | .hbm, ⟨0, _⟩ => ⟨S4x4096x1, .f32⟩
  | .hbm, ⟨1, _⟩ => ⟨S4x4096, .i32⟩
  | .hbm, ⟨2, _⟩ => ⟨S4x4096, .i32⟩
  | .hbm, ⟨3, _⟩ => ⟨S4x4096, .i32⟩
  | .hbm, ⟨4, _⟩ => ⟨S4x4096, .i32⟩
  | .hbm, ⟨5, _⟩ => ⟨S768x1, .f32⟩
  | .hbm, ⟨6, _⟩ => ⟨S768, .f32⟩
  | .hbm, ⟨7, _⟩ => ⟨S5x768, .f32⟩
  | .hbm, ⟨8, _⟩ => ⟨S2x768, .f32⟩
  | .hbm, ⟨9, _⟩ => ⟨S6x768, .f32⟩
  | .hbm, ⟨10, _⟩ => ⟨S2x768, .f32⟩
  | .hbm, ⟨11, _⟩ => ⟨S768, .f32⟩
  | .hbm, ⟨12, _⟩ => ⟨S768, .f32⟩
  | .hbm, ⟨13, _⟩ => ⟨S384, .f32⟩
  | .hbm, ⟨14, _⟩ => ⟨S_, .f32⟩
  | .hbm, ⟨15, _⟩ => ⟨S384, .f32⟩
  | .hbm, ⟨16, _⟩ => ⟨S384, .f32⟩
  | .hbm, ⟨17, _⟩ => ⟨S_, .f32⟩
  | .hbm, ⟨18, _⟩ => ⟨S384, .f32⟩
  | .hbm, ⟨19, _⟩ => ⟨S384, .f32⟩
  | .hbm, ⟨20, _⟩ => ⟨S_, .f32⟩
  | .hbm, ⟨21, _⟩ => ⟨S384, .f32⟩
  | .hbm, ⟨22, _⟩ => ⟨S384, .f32⟩
  | .hbm, ⟨23, _⟩ => ⟨S384, .f32⟩
  | .hbm, ⟨24, _⟩ => ⟨S384x2, .f32⟩
  | .hbm, ⟨25, _⟩ => ⟨S768, .f32⟩
  | .hbm, ⟨26, _⟩ => ⟨S512, .f32⟩
  | .hbm, ⟨27, _⟩ => ⟨S512x1, .f32⟩
  | .hbm, ⟨28, _⟩ => ⟨S1x768, .f32⟩
  | .hbm, ⟨29, _⟩ => ⟨S512x768, .f32⟩
  | .hbm, ⟨30, _⟩ => ⟨S512x768, .f32⟩
  | .hbm, ⟨31, _⟩ => ⟨S512x768, .f32⟩
  | .hbm, ⟨32, _⟩ => ⟨S512x768, .f32⟩
  | .hbm, ⟨33, _⟩ => ⟨S1x768, .f32⟩
  | .hbm, ⟨34, _⟩ => ⟨S512x768, .f32⟩
  | .hbm, ⟨35, _⟩ => ⟨S512x768, .f32⟩
  | .hbm, ⟨36, _⟩ => ⟨S512x768, .f32⟩
  | .hbm, ⟨37, _⟩ => ⟨S512x768, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8x1, .f32⟩
  | .hbm, ⟨43, _⟩ => ⟨S1x768, .f32⟩
  | .hbm, ⟨44, _⟩ => ⟨S8x768, .f32⟩
  | .hbm, ⟨45, _⟩ => ⟨S8x768, .f32⟩
  | .hbm, ⟨46, _⟩ => ⟨S8x768, .f32⟩
  | .hbm, ⟨47, _⟩ => ⟨S8x768, .f32⟩
  | .hbm, ⟨48, _⟩ => ⟨S1x768, .f32⟩
  | .hbm, ⟨49, _⟩ => ⟨S8x768, .f32⟩
  | .hbm, ⟨50, _⟩ => ⟨S8x768, .f32⟩
  | .hbm, ⟨51, _⟩ => ⟨S8x768, .f32⟩
  | .hbm, ⟨52, _⟩ => ⟨S8x768, .f32⟩
  | .hbm, ⟨53, _⟩ => ⟨S768, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S768, .i32⟩
  | .hbm, ⟨61, _⟩ => ⟨S768, .i32⟩
  | .hbm, ⟨62, _⟩ => ⟨S_, .i32⟩
  | .hbm, ⟨63, _⟩ => ⟨S768, .i32⟩
  | .hbm, ⟨64, _⟩ => ⟨S768, .i1⟩
  | .hbm, ⟨65, _⟩ => ⟨S_, .i32⟩
  | .hbm, ⟨66, _⟩ => ⟨S768, .i32⟩
  | .hbm, ⟨67, _⟩ => ⟨S768, .i1⟩
  | .hbm, ⟨68, _⟩ => ⟨S_, .i32⟩
  | .hbm, ⟨69, _⟩ => ⟨S_, .i1⟩
  | .hbm, ⟨70, _⟩ => ⟨S768, .i1⟩
  | .hbm, ⟨71, _⟩ => ⟨S768, .i1⟩
  | .hbm, ⟨72, _⟩ => ⟨S768, .i1⟩
  | .hbm, ⟨73, _⟩ => ⟨S768, .i32⟩
  | .hbm, ⟨74, _⟩ => ⟨S768, .i32⟩
  | .hbm, ⟨75, _⟩ => ⟨S768, .i32⟩
  | .hbm, ⟨76, _⟩ => ⟨S_, .i32⟩
  | .hbm, ⟨77, _⟩ => ⟨S768, .i32⟩
  | .hbm, ⟨78, _⟩ => ⟨S768, .i1⟩
  | .hbm, ⟨79, _⟩ => ⟨S1x768, .i1⟩
  | .hbm, ⟨80, _⟩ => ⟨S8x768, .f32⟩
  | .hbm, ⟨81, _⟩ => ⟨S8x768, .i1⟩
  | .hbm, ⟨82, _⟩ => ⟨S8x768, .f32⟩
  | .hbm, ⟨83, _⟩ => ⟨S8x768, .i1⟩
  | .hbm, ⟨84, _⟩ => ⟨S8x768, .f32⟩
  | .hbm, ⟨85, _⟩ => ⟨S16x768, .f32⟩
  | .hbm, ⟨86, _⟩ => ⟨S1x4x4096, .i32⟩
  | .hbm, ⟨87, _⟩ => ⟨S1x4x4096, .i32⟩
  | .hbm, ⟨88, _⟩ => ⟨S1x4x4096, .i32⟩
  | .hbm, ⟨89, _⟩ => ⟨S1x4x4096, .i32⟩
  | .hbm, ⟨90, _⟩ => ⟨S4x4096, .f32⟩
  | .hbm, ⟨91, _⟩ => ⟨S1x4x4096, .f32⟩
  | .hbm, ⟨92, _⟩ => ⟨S1x768, .f32⟩
  | .hbm, ⟨93, _⟩ => ⟨S16x768, .f32⟩
  | .hbm, ⟨94, _⟩ => ⟨S1x768, .f32⟩
  | .hbm, ⟨95, _⟩ => ⟨S1x768, .f32⟩
  | .hbm, ⟨96, _⟩ => ⟨S1x768, .f32⟩
  | .hbm, ⟨97, _⟩ => ⟨S_, .f32⟩
  | .hbm, ⟨98, _⟩ => ⟨S5x768, .f32⟩
  | .hbm, ⟨99, _⟩ => ⟨S8x768, .f32⟩
  | .hbm, ⟨100, _⟩ => ⟨S4x4096x768, .f32⟩
  | .local _ .vmem, ⟨0, _⟩ => ⟨S1x4x4096, .i32⟩
  | .local _ .vmem, ⟨1, _⟩ => ⟨S1x4x4096, .i32⟩
  | .local _ .vmem, ⟨2, _⟩ => ⟨S1x4x4096, .i32⟩
  | .local _ .vmem, ⟨3, _⟩ => ⟨S1x4x4096, .i32⟩
  | .local _ .vmem, ⟨4, _⟩ => ⟨S1x4x4096, .f32⟩
  | .local _ .vmem, ⟨5, _⟩ => ⟨S512x768, .f32⟩
  | .local _ .vmem, ⟨6, _⟩ => ⟨S512x768, .f32⟩
  | .local _ .vmem, ⟨7, _⟩ => ⟨S16x768, .f32⟩
  | .local _ .vmem, ⟨8, _⟩ => ⟨S16x768, .f32⟩
  | .local _ .vmem, ⟨9, _⟩ => ⟨S8x768, .f32⟩
  | .local _ .vmem, ⟨10, _⟩ => ⟨S4x512x768, .f32⟩
  | .local _ .vmem, ⟨11, _⟩ => ⟨S4x512x768, .f32⟩
  | _, _ => ⟨S4x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_1 : Ref sig .tc := ⟨.hbm, 62, rfl⟩
abbrev main_call0_v5 : Ref sig .tc := ⟨.hbm, 63, rfl⟩
abbrev main_call0_v6 : Ref sig .tc := ⟨.hbm, 64, rfl⟩
abbrev main_call0_c_2 : Ref sig .tc := ⟨.hbm, 65, rfl⟩
abbrev main_call0_v7 : Ref sig .tc := ⟨.hbm, 66, rfl⟩
abbrev main_call0_v8 : Ref sig .tc := ⟨.hbm, 67, rfl⟩
abbrev main_call0_c_3 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_v12 : Ref sig .tc := ⟨.hbm, 72, rfl⟩
abbrev main_call0_v13 : Ref sig .tc := ⟨.hbm, 73, rfl⟩
abbrev main_call0_v14 : Ref sig .tc := ⟨.hbm, 74, rfl⟩
abbrev main_v37 : Ref sig .tc := ⟨.hbm, 75, rfl⟩
abbrev main_c_3 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call1_v0 : Ref sig .tc := ⟨.hbm, 81, rfl⟩
abbrev main_v42 : Ref sig .tc := ⟨.hbm, 82, rfl⟩
abbrev main_call2_v0 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_4 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v26 : Index := Scalar.indexCast arg0
  let c0_9 : Index := 0#32
  ![v26.toNat, 0]
def k0_off2 (i : grid0.Coords) : Fin 2 → Nat :=
  let c8_i32 : BitVec 32 := 8#32
  let arg0 : BitVec 32 := BitVec.ofNat 32 (i 0).val
  let v33 : BitVec 32 := Scalar.addi c8_i32 arg0
  let v34 : Index := Scalar.indexCast v33
  let c0_12 : Index := 0#32
  ![v34.toNat, 0]
def k0_off3 (i : grid0.Coords) : Fin 3 → Nat :=
  let c0_13 : Index := 0#32
  let c0_14 : Index := 0#32
  let arg0 : BitVec 32 := BitVec.ofNat 32 (i 0).val
  let c512_i32 : BitVec 32 := 512#32
  let v40 : BitVec 32 := Scalar.muli arg0 c512_i32
  let v41 : Index := Scalar.indexCast v40
  ![0, 0, v41.toNat]
def k0_off4 (i : grid0.Coords) : Fin 3 → Nat :=
  let c0_34 : Index := 0#32
  let c1_35 : Index := 1#32
  let arg0 : BitVec 32 := BitVec.ofNat 32 (i 0).val
  let c512_i32 : BitVec 32 := 512#32
  let v40 : BitVec 32 := Scalar.muli arg0 c512_i32
  let v112 : Index := Scalar.indexCast v40
  ![0, 1, v112.toNat]
def k0_off5 (i : grid0.Coords) : Fin 3 → Nat :=
  let c0_57 : Index := 0#32
  let c2_58 : Index := 2#32
  let arg0 : BitVec 32 := BitVec.ofNat 32 (i 0).val
  let c512_i32 : BitVec 32 := 512#32
  let v40 : BitVec 32 := Scalar.muli arg0 c512_i32
  let v183 : Index := Scalar.indexCast v40
  ![0, 2, v183.toNat]
def k0_off6 (i : grid0.Coords) : Fin 3 → Nat :=
  let c0_80 : Index := 0#32
  let c3 : Index := 3#32
  let arg0 : BitVec 32 := BitVec.ofNat 32 (i 0).val
  let c512_i32 : BitVec 32 := 512#32
  let v40 : BitVec 32 := Scalar.muli arg0 c512_i32
  let v254 : Index := Scalar.indexCast v40
  ![0, 3, v254.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "sqrt_d" => some ((Real.sqrt 768 : ℝ) : EReal)
  | _ => none
-- ==== ReferenceIdeal.lean ====
abbrev S4x4096x1 : Shape := ⟨3, ![4, 4096, 1]⟩
abbrev S4x4096 : Shape := ⟨2, ![4, 4096]⟩
abbrev S768x1 : Shape := ⟨2, ![768, 1]⟩
abbrev S768 : Shape := ⟨1, ![768]⟩
abbrev S5x768 : Shape := ⟨2, ![5, 768]⟩
abbrev S2x768 : Shape := ⟨2, ![2, 768]⟩
abbrev S6x768 : Shape := ⟨2, ![6, 768]⟩
abbrev S1x768 : Shape := ⟨2, ![1, 768]⟩
abbrev S4x4096x768 : Shape := ⟨3, ![4, 4096, 768]⟩
abbrev S1x1x768 : Shape := ⟨3, ![1, 1, 768]⟩
abbrev S_ : Shape := ⟨0, ![]⟩
abbrev S1 : Shape := ⟨1, ![1]⟩
abbrev S1x1x1 : Shape := ⟨3, ![1, 1, 1]⟩
abbrev S4096 : Shape := ⟨1, ![4096]⟩
abbrev S4096x1 : Shape := ⟨2, ![4096, 1]⟩
abbrev S384 : Shape := ⟨1, ![384]⟩
abbrev S1x384 : Shape := ⟨2, ![1, 384]⟩
abbrev S4096x384 : Shape := ⟨2, ![4096, 384]⟩
abbrev S4096x384x1 : Shape := ⟨3, ![4096, 384, 1]⟩
abbrev S4096x384x2 : Shape := ⟨3, ![4096, 384, 2]⟩
abbrev S4096x768 : Shape := ⟨2, ![4096, 768]⟩
abbrev S1x4096x768 : Shape := ⟨3, ![1, 4096, 768]⟩

abbrev nBuf : Space → Nat
  | .hbm => 173
  | .vmem => 0
  | .smem => 0
  | _ => 0

abbrev hbmTy0_0 (i : Nat) : BufTy := match i % 128 with
  | 0 => ⟨S4x4096x1, .f32⟩
  | 1 => ⟨S4x4096, .i32⟩
  | 2 => ⟨S4x4096, .i32⟩
  | 3 => ⟨S4x4096, .i32⟩
  | 4 => ⟨S4x4096, .i32⟩
  | 5 => ⟨S768x1, .f32⟩
  | 6 => ⟨S768, .f32⟩
  | 7 => ⟨S5x768, .f32⟩
  | 8 => ⟨S2x768, .f32⟩
  | 9 => ⟨S6x768, .f32⟩
  | 10 => ⟨S2x768, .f32⟩
  | 11 => ⟨S768, .f32⟩
  | 12 => ⟨S768, .f32⟩
  | 13 => ⟨S1x768, .f32⟩
  | 14 => ⟨S4x4096x768, .f32⟩
  | 15 => ⟨S1x1x768, .f32⟩
  | 16 => ⟨S4x4096x768, .f32⟩
  | 17 => ⟨S4x4096x768, .f32⟩
  | 18 => ⟨S_, .i32⟩
  | 19 => ⟨S4x4096, .i32⟩
  | 20 => ⟨S4x4096, .i1⟩
  | 21 => ⟨S_, .i32⟩
  | 22 => ⟨S4x4096, .i32⟩
  | 23 => ⟨S4x4096, .i32⟩
  | 24 => ⟨S4x4096, .i32⟩
  | 25 => ⟨S4x4096x1, .i32⟩
  | 26 => ⟨S1, .i32⟩
  | 27 => ⟨S_, .i32⟩
  | 28 => ⟨S4x4096x1, .i32⟩
  | 29 => ⟨S4x4096x1, .i1⟩
  | 30 => ⟨S1x1x1, .i32⟩
  | 31 => ⟨S4x4096x1, .i32⟩
  | 32 => ⟨S4x4096x1, .i1⟩
  | 33 => ⟨S4x4096x1, .i1⟩
  | 34 => ⟨S_, .i1⟩
  | 35 => ⟨S4x4096, .i1⟩
  | 36 => ⟨S4x4096x768, .f32⟩
  | 37 => ⟨S4x4096x768, .i1⟩
  | 38 => ⟨S_, .f32⟩
  | 39 => ⟨S4x4096x768, .f32⟩
  | 40 => ⟨S4x4096x768, .f32⟩
  | 41 => ⟨S4x4096x768, .f32⟩
  | 42 => ⟨S_, .i32⟩
  | 43 => ⟨S4x4096, .i32⟩
  | 44 => ⟨S4x4096, .i1⟩
  | 45 => ⟨S_, .i32⟩
  | 46 => ⟨S4x4096, .i32⟩
  | 47 => ⟨S4x4096, .i32⟩
  | 48 => ⟨S4x4096, .i32⟩
  | 49 => ⟨S4x4096x1, .i32⟩
  | 50 => ⟨S1, .i32⟩
  | 51 => ⟨S_, .i32⟩
  | 52 => ⟨S4x4096x1, .i32⟩
  | 53 => ⟨S4x4096x1, .i1⟩
  | 54 => ⟨S1x1x1, .i32⟩
  | 55 => ⟨S4x4096x1, .i32⟩
  | 56 => ⟨S4x4096x1, .i1⟩
  | 57 => ⟨S4x4096x1, .i1⟩
  | 58 => ⟨S_, .i1⟩
  | 59 => ⟨S4x4096, .i1⟩
  | 60 => ⟨S4x4096x768, .f32⟩
  | 61 => ⟨S4x4096x768, .i1⟩
  | 62 => ⟨S_, .f32⟩
  | 63 => ⟨S4x4096x768, .f32⟩
  | 64 => ⟨S4x4096x768, .f32⟩
  | 65 => ⟨S4x4096x768, .f32⟩
  | 66 => ⟨S_, .i32⟩
  | 67 => ⟨S4x4096, .i32⟩
  | 68 => ⟨S4x4096, .i1⟩
  | 69 => ⟨S_, .i32⟩
  | 70 => ⟨S4x4096, .i32⟩
  | 71 => ⟨S4x4096, .i32⟩
  | 72 => ⟨S4x4096, .i32⟩
  | 73 => ⟨S4x4096x1, .i32⟩
  | 74 => ⟨S1, .i32⟩
  | 75 => ⟨S_, .i32⟩
  | 76 => ⟨S4x4096x1, .i32⟩
  | 77 => ⟨S4x4096x1, .i1⟩
  | 78 => ⟨S1x1x1, .i32⟩
  | 79 => ⟨S4x4096x1, .i32⟩
  | 80 => ⟨S4x4096x1, .i1⟩
  | 81 => ⟨S4x4096x1, .i1⟩
  | 82 => ⟨S_, .i1⟩
  | 83 => ⟨S4x4096, .i1⟩
  | 84 => ⟨S4x4096x768, .f32⟩
  | 85 => ⟨S4x4096x768, .i1⟩
  | 86 => ⟨S_, .f32⟩
  | 87 => ⟨S4x4096x768, .f32⟩
  | 88 => ⟨S4x4096x768, .f32⟩
  | 89 => ⟨S4x4096x768, .f32⟩
  | 90 => ⟨S_, .i32⟩
  | 91 => ⟨S4x4096, .i32⟩
  | 92 => ⟨S4x4096, .i1⟩
  | 93 => ⟨S_, .i32⟩
  | 94 => ⟨S4x4096, .i32⟩
  | 95 => ⟨S4x4096, .i32⟩
  | 96 => ⟨S4x4096, .i32⟩
  | 97 => ⟨S4x4096x1, .i32⟩
  | 98 => ⟨S1, .i32⟩
  | 99 => ⟨S_, .i32⟩
  | 100 => ⟨S4x4096x1, .i32⟩
  | 101 => ⟨S4x4096x1, .i1⟩
  | 102 => ⟨S1x1x1, .i32⟩
  | 103 => ⟨S4x4096x1, .i32⟩
  | 104 => ⟨S4x4096x1, .i1⟩
  | 105 => ⟨S4x4096x1, .i1⟩
  | 106 => ⟨S_, .i1⟩
  | 107 => ⟨S4x4096, .i1⟩
  | 108 => ⟨S4x4096x768, .f32⟩
  | 109 => ⟨S4x4096x768, .i1⟩
  | 110 => ⟨S_, .f32⟩
  | 111 => ⟨S4x4096x768, .f32⟩
  | 112 => ⟨S4x4096x768, .f32⟩
  | 113 => ⟨S4x4096x768, .f32⟩
  | 114 => ⟨S_, .f32⟩
  | 115 => ⟨S_, .f32⟩
  | 116 => ⟨S4x4096x768, .f32⟩
  | 117 => ⟨S4x4096x768, .f32⟩
  | 118 => ⟨S4096, .f32⟩
  | 119 => ⟨S4096x1, .f32⟩
  | 120 => ⟨S384, .f32⟩
  | 121 => ⟨S_, .f32⟩
  | 122 => ⟨S384, .f32⟩
  | 123 => ⟨S384, .f32⟩
  | 124 => ⟨S_, .f32⟩
  | 125 => ⟨S384, .f32⟩
  | 126 => ⟨S384, .f32⟩
  | 127 => ⟨S_, .f32⟩
  | _ => ⟨S4x4096x1, .f32⟩

abbrev hbmTy0_1 (i : Nat) : BufTy := match i % 128 with
  | 0 => ⟨S384, .f32⟩
  | 1 => ⟨S384, .f32⟩
  | 2 => ⟨S384, .f32⟩
  | 3 => ⟨S1x384, .f32⟩
  | 4 => ⟨S4096x384, .f32⟩
  | 5 => ⟨S4096x384, .f32⟩
  | 6 => ⟨S4096x384, .f32⟩
  | 7 => ⟨S4096x384, .f32⟩
  | 8 => ⟨S4096x384, .f32⟩
  | 9 => ⟨S4096x384x1, .f32⟩
  | 10 => ⟨S4096x384x1, .f32⟩
  | 11 => ⟨S4096x384x2, .f32⟩
  | 12 => ⟨S4096x768, .f32⟩
  | 13 => ⟨S1x4096x768, .f32⟩
  | 14 => ⟨S4x4096x768, .f32⟩
  | 15 => ⟨S4x4096x768, .f32⟩
  | 16 => ⟨S_, .f32⟩
  | 17 => ⟨S4x4096, .f32⟩
  | 18 => ⟨S4x4096x1, .f32⟩
  | 19 => ⟨S_, .f32⟩
  | 20 => ⟨S4x4096x1, .f32⟩
  | 21 => ⟨S4x4096x1, .f32⟩
  | 22 => ⟨S4x4096x768, .f32⟩
  | 23 => ⟨S4x4096x768, .f32⟩
  | 24 => ⟨S4x4096x768, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S4x4096x768, .f32⟩
  | 32 => ⟨S4x4096x768, .f32⟩
  | 33 => ⟨S_, .f32⟩
  | 34 => ⟨S4x4096x1, .f32⟩
  | 35 => ⟨S4x4096x1, .f32⟩
  | 36 => ⟨S4x4096x1, .f32⟩
  | 37 => ⟨S4x4096x768, .f32⟩
  | 38 => ⟨S4x4096x768, .f32⟩
  | 39 => ⟨S1x1x768, .f32⟩
  | 40 => ⟨S4x4096x768, .f32⟩
  | 41 => ⟨S4x4096x768, .f32⟩
  | 42 => ⟨S1x1x768, .f32⟩
  | 43 => ⟨S4x4096x768, .f32⟩
  | 44 => ⟨S4x4096x768, .f32⟩
  | _ => ⟨S4x4096x1, .f32⟩

abbrev hbmTy (i : Nat) : BufTy := match i / 128 with
  | 0 => hbmTy0_0 i
  | 1 => hbmTy0_1 i
  | _ => ⟨S4x4096x1, .f32⟩

abbrev bufTy : (tb : Table) → Fin (tcTables nBuf tb) → BufTy
  | .hbm, ⟨i, _⟩ => hbmTy i
  | _, _ => ⟨S4x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_v6 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v7 : Ref sig .tc := ⟨.hbm, 64, rfl⟩
abbrev main_v8 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v9 : Ref sig .tc := ⟨.hbm, 88, rfl⟩
abbrev main_v10 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v11 : Ref sig .tc := ⟨.hbm, 112, rfl⟩
abbrev main_v12 : Ref sig .tc := ⟨.hbm, 113, rfl⟩
abbrev main_cst : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_cst_0 : Ref sig .tc := ⟨.hbm, 121, rfl⟩
abbrev main_v19 : Ref sig .tc := ⟨.hbm, 122, rfl⟩
abbrev main_v20 : Ref sig .tc := ⟨.hbm, 123, rfl⟩
abbrev main_cst_1 : Ref sig .tc := ⟨.hbm, 124, rfl⟩
abbrev main_v21 : Ref sig .tc := ⟨.hbm, 125, rfl⟩
abbrev main_v22 : Ref sig .tc := ⟨.hbm, 126, rfl⟩
abbrev main_cst_2 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_cst_3 : Ref sig .tc := ⟨.hbm, 144, rfl⟩
abbrev main_v39 : Ref sig .tc := ⟨.hbm, 145, rfl⟩
abbrev main_v40 : Ref sig .tc := ⟨.hbm, 146, rfl⟩
abbrev main_cst_4 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_cst_5 : Ref sig .tc := ⟨.hbm, 153, rfl⟩
abbrev main_v46 : Ref sig .tc := ⟨.hbm, 154, rfl⟩
abbrev main_v47 : Ref sig .tc := ⟨.hbm, 155, rfl⟩
abbrev main_cst_6 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_cst_7 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩

abbrev nD : Nat := 1
abbrev τ : Topo := Topo.v7x

variable {F : FTy → Type} [FloatOps F]
-- ==== Proof.Block.lean ====
/-
  What one grid point of the kernel stores.  The body does the same thing four times, once per batch row `j`: it reads
  512 consecutive entries of the four token rows and of the pitch row, builds a 16 × 512 matrix of coefficients, multiplies
  it with the scaled table, adds the positional encoding and normalises every row.  Here that one computation is written
  once (`rows`), and the block the body leaves is shown to be its four uses, one for each batch row.
-/
module

public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.Tactic Idealize.SL.Sem

variable {F : FTy → Type} [FloatOps F] [Named F]

/-- 512 token entries, laid out as one row. -/
def tokenRow (t : Vec F S1x1x512 .i32) : IVec S1x512 32 :=
  shapeCast S1x512 (shapeCast S512 t shapeCasts_S1x1x512_S512) shapeCasts_S512_S1x512

/-- For every table row `k` and position `r`, the bit `k = t r`. -/
def hits (t : IVec S1x512 32) : IVec S16x512 1 :=
  cmpi .eq (iota .tc S16x512 32 [0] iota_S16x512_d0_w32) (broadcastTo S16x512 t broadcasts_S1x512_S16x512)

/-- For every table row `k` and position `r`, the bit `k = t r + o`. -/
def hitsFrom (t : IVec S1x512 32) (o : BitVec 32) : IVec S16x512 1 := hits (addi t (broadcast S1x512 o))

/-- The coefficient matrix: row 15 holds the pitch, row `k < 15` holds 1 where one of the four tokens selects row `k` and
    0 elsewhere. -/
def coeffs (st sb wt wb : Vec F S1x1x512 .i32) (f0 : Vec F S1x1x512 .f32) : FVec F S16x512 .f32 :=
  select (cmpi .eq (iota .tc S16x512 32 [0] iota_S16x512_d0_w32) (broadcast S16x512 15#32))
    (broadcastTo S16x512
      (shapeCast S1x512
        (shapeCast S1x512 (shapeCast S512 f0 shapeCasts_S1x1x512_S512) shapeCasts_S512_S1x512)
        shapeCasts_S1x512_S1x512)
      broadcasts_S1x512_S16x512)
    (sitofp .f32
      (extui 32
        (ori (ori (ori (hits (tokenRow st)) (hitsFrom (tokenRow sb) 5#32)) (hitsFrom (tokenRow wt) 7#32))
          (hitsFrom (tokenRow wb) 13#32))
        natLt_1_32))

/-- The scaled table: every row times √768, and the pitch bias times √768 added to rows 5 and 6. -/
def table (bias : Vec F S1x768 .f32) (tcat : Vec F S16x768 .f32) : FVec F S16x768 .f32 := k0_pay4 bias tcat

/-- The positional encoding of the block's 512 positions, from the four factors of the angle sum. -/
def posEnc (sinb cosb : Vec F S512x768 .f32) (p q : Vec F S1x768 .f32) : FVec F S512x768 .f32 :=
  k0_pay7 (k0_pay5 sinb p) (k0_pay6 cosb q)

/-- The embedded rows before the normalisation. -/
def embedded (m : FVec F S16x512 .f32) (tc : FVec F S16x768 .f32) (pe : FVec F S512x768 .f32) : FVec F S512x768 .f32 :=
  addf (matmul dot_S16x512_S16x768_S512x768_0_0_1_1_n_n none m tc (constant S512x768 .f32 0x00000000#32)) pe

/-- The mean of every row, as a column. -/
def rowMean (y : FVec F S512x768 .f32) : FVec F S512x1 .f32 :=
  divf
    (shapeCast S512x1
      (multiReduction .add [1] S512 y 0x00000000#32 reduces_S512x768_S512 (.inl rfl) rfl) shapeCasts_S512_S512x1)
    (broadcast S512x1 (Scalar.ofBits .f32 0x44400000#32))

/-- The reciprocal standard deviation of every row, as a column: the variance is the mean of the squares less the square
    of the mean. -/
def rowRstd (y : FVec F S512x768 .f32) : FVec F S512x1 .f32 :=
  rsqrt (addf (subf (rowMean (mulf y y)) (mulf (rowMean y) (rowMean y))) (broadcast S512x1 (Scalar.ofBits .f32 0x2B8CBCCC#32)))

/-- The normalised rows, scaled by `γ` and shifted by `β`. -/
def normalised (γ β : FVec F S1x768 .f32) (y : FVec F S512x768 .f32) : FVec F S512x768 .f32 :=
  addf
    (mulf
      (mulf (subf y (broadcastTo S512x768 (rowMean y) broadcasts_S512x1_S512x768))
        (broadcastTo S512x768 (rowRstd y) broadcasts_S512x1_S512x768))
      (broadcastTo S512x768 γ broadcasts_S1x768_S512x768))
    (broadcastTo S512x768 β broadcasts_S1x768_S512x768)

/-- One batch row's part of the block. -/
def rows (γ β : FVec F S1x768 .f32) (tc : FVec F S16x768 .f32) (pe : FVec F S512x768 .f32)
    (st sb wt wb : Vec F S1x1x512 .i32) (f0 : Vec F S1x1x512 .f32) : FVec F S1x512x768 .f32 :=
  shapeCast S1x512x768 (normalised γ β (embedded (coeffs st sb wt wb f0) tc pe)) shapeCasts_S512x768_S1x512x768

/-! ## The block as four uses of `rows` -/

/-- Row `n` of the parameter array. -/
abbrev param (x9 : Vec F S8x768 .f32) (n : Nat) (h : ∀ a, (![n, 0] : Fin 2 → Nat) a + S1x768.size a ≤ S8x768.size a) :
    FVec F S1x768 .f32 :=
  View.ld x9 (Rect.unit (s := S8x768) ![n, 0] S1x768.size h)

/-- The part of the block one batch row gets: `rows` at the 512 entries the offsets `off` name. -/
def part (i : grid0.Coords) (x0 x1 x2 x3 : Vec F S1x4x4096 .i32) (x4 : Vec F S1x4x4096 .f32)
    (x5 x6 : Vec F S512x768 .f32) (x7 x8 : Vec F S16x768 .f32) (x9 : Vec F S8x768 .f32)
    (off : Fin 3 → Nat) (h : ∀ a, off a + S1x1x512.size a ≤ S1x4x4096.size a) : FVec F S1x512x768 .f32 :=
  rows (k0_pay2 (param x9 1 inb_S8x768_S1x768_1_0)) (k0_pay3 (param x9 2 inb_S8x768_S1x768_2_0))
    (table (param x9 0 inb_S8x768_S1x768_0_0)
      (View.ld x8 (Rect.unit (s := S16x768) ![0, 0] S16x768.size inb_S16x768_S16x768_0_0)))
    (posEnc (View.ld x5 (Rect.unit (s := S512x768) ![0, 0] S512x768.size inb_S512x768_S512x768_0_0))
      (View.ld x6 (Rect.unit (s := S512x768) ![0, 0] S512x768.size inb_S512x768_S512x768_0_0))
      (View.ld x7 (Rect.unit (s := S16x768) (k0_off1 i) S1x768.size (k0_off1_inb i)))
      (View.ld x7 (Rect.unit (s := S16x768) (k0_off2 i) S1x768.size (k0_off2_inb i))))
    (View.ld x0 (Rect.unit (s := S1x4x4096) off S1x1x512.size h))
    (View.ld x1 (Rect.unit (s := S1x4x4096) off S1x1x512.size h))
    (View.ld x2 (Rect.unit (s := S1x4x4096) off S1x1x512.size h))
    (View.ld x3 (Rect.unit (s := S1x4x4096) off S1x1x512.size h))
    (View.ld x4 (Rect.unit (s := S1x4x4096) off S1x1x512.size h))

/-- The stores of one grid point, the last one first. -/
abbrev pieces (i : grid0.Coords) (x0 x1 x2 x3 : Vec F S1x4x4096 .i32) (x4 : Vec F S1x4x4096 .f32)
    (x5 x6 : Vec F S512x768 .f32) (x7 x8 : Vec F S16x768 .f32) (x9 : Vec F S8x768 .f32) :
    List (View.Piece (Elt F) S4x512x768 .f32) :=
  [⟨Rect.unit (s := S4x512x768) ![3, 0, 0] S1x512x768.size inb_S4x512x768_S1x512x768_3_0_0,
      part i x0 x1 x2 x3 x4 x5 x6 x7 x8 x9 (k0_off6 i) (k0_off6_inb i)⟩,
   ⟨Rect.unit (s := S4x512x768) ![2, 0, 0] S1x512x768.size inb_S4x512x768_S1x512x768_2_0_0,
      part i x0 x1 x2 x3 x4 x5 x6 x7 x8 x9 (k0_off5 i) (k0_off5_inb i)⟩,
   ⟨Rect.unit (s := S4x512x768) ![1, 0, 0] S1x512x768.size inb_S4x512x768_S1x512x768_1_0_0,
      part i x0 x1 x2 x3 x4 x5 x6 x7 x8 x9 (k0_off4 i) (k0_off4_inb i)⟩,
   ⟨Rect.unit (s := S4x512x768) ![0, 0, 0] S1x512x768.size inb_S4x512x768_S1x512x768_0_0_0,
      part i x0 x1 x2 x3 x4 x5 x6 x7 x8 x9 (k0_off3 i) (k0_off3_inb i)⟩]

variable (m : (ℓ : Loc nD τ sig) → Buf (Elt F) ℓ)

/-- What the output's buffer holds after a grid point is the four stores read back. -/
theorem outsAt_eq (c : Dev nD) (t : Fin cfg0.N) :
    outsAt0 m c t = View.canon (pieces (grid0.coords t) (iblk m c 0 t) (iblk m c 1 t) (iblk m c 2 t) (iblk m c 3 t)
      (iblk m c 4 t) (iblk m c 5 t) (iblk m c 6 t) (iblk m c 7 t) (iblk m c 8 t) (iblk m c 9 t)) := by
  unfold outsAt0 out0_A_10
  rw [View.read_writes_eq_canon _ _ _ (cover0_A_10 c (grid0.coords t) _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread]
  rfl

end Cert.KernelIdeal.Block
-- ==== Proof.BlockValue.lean ====
/-
  The block a grid point stores, read at one index over the extended reals.  `Spec` spells the mathematics of one
  entry; `part_apply` reads `Block.part` as it and `outsAt_apply` the whole block, for any batch row.
-/
module

public import proofs.«01_k».proof.Proof.Block
public import Idealize.ShloMosaic.Lib.ValueIdx
public import Idealize.ShloMosaic.Lib.Pipeline.ValueKit.Tiles
public import Idealize.ShloMosaic.PureOps.Ideal.Laws
public import Idealize.ShloMosaic.Lib.ValueLayout
public import Idealize.ShloMosaic.Lib.ValueLayoutCasts

@[expose] public section

set_option maxRecDepth 16384

noncomputable section

/-! ## One entry's mathematics -/

namespace Cert.Spec

open Idealize.ShloMosaic

/-- The coefficient of table row `k` at a position whose tokens are `st sb wt wb` and whose pitch is `f0`. -/
def coeff (st sb wt wb : BitVec 32) (f0 : EReal) (k : Fin 16) : EReal :=
  if k.val = 15 then f0
  else if BitVec.ofNat 32 k.val = st ∨ BitVec.ofNat 32 k.val = sb + 5#32 ∨ BitVec.ofNat 32 k.val = wt + 7#32
    ∨ BitVec.ofNat 32 k.val = wb + 13#32 then 1 else 0

/-- Row `k` of the scaled table, in a column whose table entries are `tc` and whose bias is `b`. -/
def tableRow (b : EReal) (tc : Fin 16 → EReal) (k : Fin 16) : EReal :=
  tc k * ((Real.sqrt 768 : ℝ) : EReal) + if 5 ≤ k.val ∧ k.val < 7 then b * ((Real.sqrt 768 : ℝ) : EReal) else 0

/-- The mean of a row, as the kernel computes it. -/
def mean (y : Fin 768 → EReal) : EReal := Ideal.div (∑ d, y d) (Ideal.ofBits .f32 0x44400000#32)

/-- One entry of a normalised row, as the kernel computes it. -/
def normed (γ β : EReal) (y : Fin 768 → EReal) (d : Fin 768) : EReal :=
  (y d - mean y) * Ideal.rsqrt (mean (fun e => y e * y e) - mean y * mean y + Ideal.ofBits .f32 0x2B8CBCCC#32) * γ + β

end Cert.Spec

namespace Cert.KernelIdeal.Block

open Cert.KernelIdeal Cert.KernelIdeal.Gen Idealize.ShloMosaic Idealize.ShloMosaic.ValueIdx Idealize.SL.Sem

/-! ## The pieces of the computation at an index -/

theorem tokenRow_apply (t : Vec Ideal S1x1x512 .i32) (r : Fin 512) :
    tokenRow (F := Ideal) t (ix2 0 r) = t (ix3 0 0 r) := by
  unfold tokenRow
  rw [shapeCast_apply _ _ (ix2 0 r) (ix1 r) (by rw [Shape.rowMajor_val_two, Shape.rowMajor_val_one]; simp),
    shapeCast_apply _ _ (ix1 r) (ix3 0 0 r) (by rw [Shape.rowMajor_val_three, Shape.rowMajor_val_one]; simp)]

theorem broadcastRow_apply {n w : Nat} {α : Type} (x : (⟨2, ![1, w]⟩ : Shape).Idx → α)
    (h : (⟨2, ![1, w]⟩ : Shape).Broadcasts ⟨2, ![n, w]⟩) (hw : w ≠ 1) (k : Fin n) (r : Fin w) :
    broadcastTo ⟨2, ![n, w]⟩ x h (ix2 k r) = x (ix2 0 r) :=
  broadcastTo_apply x h (ix2 k r) (ix2 0 r) fun a => match a with
    | ⟨0, _⟩ => rfl
    | ⟨1, _⟩ => by show r.val = if w = 1 then 0 else r.val; rw [if_neg hw]

theorem broadcastCol_apply {n w : Nat} {α : Type} (x : (⟨2, ![n, 1]⟩ : Shape).Idx → α)
    (h : (⟨2, ![n, 1]⟩ : Shape).Broadcasts ⟨2, ![n, w]⟩) (hn : n ≠ 1) (r : Fin n) (d : Fin w) :
    broadcastTo ⟨2, ![n, w]⟩ x h (ix2 r d) = x (ix2 r 0) :=
  broadcastTo_apply x h (ix2 r d) (ix2 r 0) fun a => match a with
    | ⟨0, _⟩ => by show r.val = if n = 1 then 0 else r.val; rw [if_neg hn]
    | ⟨1, _⟩ => rfl

theorem hits_apply (t : IVec S1x512 32) (k : Fin 16) (r : Fin 512) :
    hits t (ix2 k r) = BitVec.ofBool (BitVec.ofNat 32 k.val == t (ix2 0 r)) := by
  unfold hits cmpi
  rw [iota_single_apply, broadcastRow_apply t _ (by decide)]
  rfl

/-- The coefficient matrix at an entry. -/
theorem coeffs_apply (st sb wt wb : Vec Ideal S1x1x512 .i32) (f0 : Vec Ideal S1x1x512 .f32) (k : Fin 16) (r : Fin 512) :
    coeffs (F := Ideal) st sb wt wb f0 (ix2 k r)
      = Spec.coeff (st (ix3 0 0 r)) (sb (ix3 0 0 r)) (wt (ix3 0 0 r)) (wb (ix3 0 0 r)) (f0 (ix3 0 0 r)) k := by
  unfold coeffs Spec.coeff
  rw [select_apply, sitofp_apply, extui_apply]
  have hf : broadcastTo S16x512 (shapeCast S1x512 (shapeCast S1x512 (shapeCast S512 f0 shapeCasts_S1x1x512_S512)
      shapeCasts_S512_S1x512) shapeCasts_S1x512_S1x512) broadcasts_S1x512_S16x512 (ix2 k r) = f0 (ix3 0 0 r) := by
    rw [broadcastRow_apply _ _ (by decide), shapeCast_self,
      shapeCast_apply _ _ (ix2 0 r) (ix1 r) (by rw [Shape.rowMajor_val_two, Shape.rowMajor_val_one]; simp),
      shapeCast_apply _ _ (ix1 r) (ix3 0 0 r) (by rw [Shape.rowMajor_val_three, Shape.rowMajor_val_one]; simp)]
  rw [hf]
  have h15 : (cmpi .eq (iota .tc S16x512 32 [0] iota_S16x512_d0_w32) (broadcast S16x512 15#32)) (ix2 k r)
      = BitVec.ofBool (decide (k.val = 15)) := by
    unfold cmpi
    rw [iota_single_apply]
    exact (by decide : ∀ k : Fin 16, IntOp.cmpi .eq (BitVec.ofNat 32 k.val) 15#32 = BitVec.ofBool (decide (k.val = 15))) k
  rw [h15]
  have ho : ∀ t : Vec Ideal S1x1x512 .i32, ∀ o, hitsFrom (tokenRow (F := Ideal) t) o (ix2 k r)
      = BitVec.ofBool (BitVec.ofNat 32 k.val == t (ix3 0 0 r) + o) := fun t o => by
    unfold hitsFrom
    rw [hits_apply]
    show BitVec.ofBool (_ == tokenRow (F := Ideal) t (ix2 0 r) + o) = _
    rw [tokenRow_apply]
  have hb : (ori (ori (ori (hits (tokenRow (F := Ideal) st)) (hitsFrom (tokenRow (F := Ideal) sb) 5#32))
      (hitsFrom (tokenRow (F := Ideal) wt) 7#32)) (hitsFrom (tokenRow (F := Ideal) wb) 13#32)) (ix2 k r)
      = BitVec.ofBool (decide (BitVec.ofNat 32 k.val = st (ix3 0 0 r) ∨ BitVec.ofNat 32 k.val = sb (ix3 0 0 r) + 5#32
        ∨ BitVec.ofNat 32 k.val = wt (ix3 0 0 r) + 7#32 ∨ BitVec.ofNat 32 k.val = wb (ix3 0 0 r) + 13#32)) := by
    show ((hits (tokenRow (F := Ideal) st) (ix2 k r) ||| hitsFrom (tokenRow (F := Ideal) sb) 5#32 (ix2 k r))
      ||| hitsFrom (tokenRow (F := Ideal) wt) 7#32 (ix2 k r)) ||| hitsFrom (tokenRow (F := Ideal) wb) 13#32 (ix2 k r) = _
    rw [ho, ho, ho, hits_apply, tokenRow_apply, BitVec.ofBool_or_ofBool, BitVec.ofBool_or_ofBool, BitVec.ofBool_or_ofBool]
    congr 1
    rw [Bool.eq_iff_iff]
    simp [or_assoc]
  rw [hb]
  by_cases hk : k.val = 15
  · rw [if_pos hk, decide_eq_true hk]; rfl
  · rw [if_neg hk, decide_eq_false hk]
    show FloatOps.sitofp (F := Ideal) .f32 _ = _
    split
    · next h => rw [decide_eq_true h]; show (((1 : Int) : ℝ) : EReal) = 1; simp
    · next h => rw [decide_eq_false h]; show (((0 : Int) : ℝ) : EReal) = 0; simp

/-- The scaled table at an entry. -/
theorem table_apply (b : Vec Ideal S1x768 .f32) (tc : Vec Ideal S16x768 .f32) (k : Fin 16) (d : Fin 768) :
    table (F := Ideal) b tc (ix2 k d) = Spec.tableRow (b (ix2 0 d)) (fun k => tc (ix2 k d)) k := by
  unfold table k0_pay4 Spec.tableRow
  simp only [shapeCast_self]
  rw [addf_apply, mulf_apply, select_apply, broadcastRow_apply _ _ (by decide), mulf_apply]
  have hc : (andi (cmpi .sge (iota .tc S16x768 32 [0] iota_S16x768_d0_w32) (broadcast S16x768 5#32))
      (cmpi .slt (iota .tc S16x768 32 [0] iota_S16x768_d0_w32) (broadcast S16x768 7#32))) (ix2 k d)
      = BitVec.ofBool (decide (5 ≤ k.val ∧ k.val < 7)) := by
    unfold andi cmpi
    rw [iota_single_apply]
    exact (by decide : ∀ k : Fin 16, IntOp.andi (IntOp.cmpi .sge (BitVec.ofNat 32 k.val) 5#32)
      (IntOp.cmpi .slt (BitVec.ofNat 32 k.val) 7#32) = BitVec.ofBool (decide (5 ≤ k.val ∧ k.val < 7))) k
  rw [hc]
  congr 1
  by_cases h : 5 ≤ k.val ∧ k.val < 7
  · rw [if_pos h, decide_eq_true h]; rfl
  · rw [if_neg h, decide_eq_false h]
    exact Ideal.ofBits_zero_f32

/-- The positional encoding at an entry. -/
theorem posEnc_apply (sinb cosb : Vec Ideal S512x768 .f32) (p q : Vec Ideal S1x768 .f32) (r : Fin 512) (d : Fin 768) :
    posEnc (F := Ideal) sinb cosb p q (ix2 r d) = sinb (ix2 r d) * p (ix2 0 d) + cosb (ix2 r d) * q (ix2 0 d) := by
  unfold posEnc k0_pay7 k0_pay5 k0_pay6
  simp only [shapeCast_self]
  rw [addf_apply, mulf_apply, mulf_apply, broadcastRow_apply _ _ (by decide), broadcastRow_apply _ _ (by decide)]

/-- The embedded rows at an entry: the coefficients times the table's column, and the positional encoding. -/
theorem embedded_apply (m : FVec Ideal S16x512 .f32) (tc : FVec Ideal S16x768 .f32) (pe : FVec Ideal S512x768 .f32)
    (r : Fin 512) (d : Fin 768) :
    embedded (F := Ideal) m tc pe (ix2 r d) = (∑ k : Fin 16, m (ix2 k r) * tc (ix2 k d)) + pe (ix2 r d) := by
  unfold embedded
  rw [addf_apply]
  congr 1
  simp only [matmul]
  rw [Ideal.matmul_constant_zero_apply,
    ← Equiv.sum_comp (contrEquiv1 dot_S16x512_S16x768_S512x768_0_0_1_1_n_n 16 rfl rfl).symm]
  refine Finset.sum_congr rfl fun k _ => ?_
  have hk := contrEquiv1_symm_val dot_S16x512_S16x768_S512x768_0_0_1_1_n_n 16 rfl rfl k
  congr 1
  · refine congrArg m (funext fun a => Fin.ext ?_)
    match a with
    | ⟨0, _⟩ => exact hk
    | ⟨1, _⟩ => rfl
  · refine congrArg tc (funext fun a => Fin.ext ?_)
    match a with
    | ⟨0, _⟩ => exact hk
    | ⟨1, _⟩ => rfl

theorem rowMean_apply (y : FVec Ideal S512x768 .f32) (r : Fin 512) :
    rowMean (F := Ideal) y (ix2 r 0) = Spec.mean fun d => y (ix2 r d) := by
  unfold rowMean Spec.mean
  rw [divf_apply, shapeCast_a_a1_apply]
  have e := Ideal.multiReduction_add_single (a := 1) y 0x00000000#32 reduces_S512x768_S512 (.inl rfl) rfl (ix1 r)
  refine congrArg₂ Ideal.div (e.trans ?_) rfl
  refine Finset.sum_congr rfl fun d _ => congrArg y (funext fun a => Fin.ext ?_)
  match a with
  | ⟨0, _⟩ => rfl
  | ⟨1, _⟩ => rfl

/-- The normalised rows at an entry. -/
theorem normalised_apply (γ β : FVec Ideal S1x768 .f32) (y : FVec Ideal S512x768 .f32) (r : Fin 512) (d : Fin 768) :
    normalised (F := Ideal) γ β y (ix2 r d)
      = Spec.normed (γ (ix2 0 d)) (β (ix2 0 d)) (fun d => y (ix2 r d)) d := by
  unfold normalised Spec.normed
  rw [addf_apply, mulf_apply, mulf_apply, subf_apply, broadcastCol_apply _ _ (by decide), broadcastCol_apply _ _ (by decide),
    broadcastRow_apply _ _ (by decide), broadcastRow_apply _ _ (by decide), rowMean_apply]
  congr 3
  show Ideal.rsqrt (rowMean (F := Ideal) (mulf y y) (ix2 r 0) - rowMean (F := Ideal) y (ix2 r 0) * rowMean (F := Ideal) y (ix2 r 0)
    + Ideal.ofBits .f32 0x2B8CBCCC#32) = _
  rw [rowMean_apply, rowMean_apply]
  rfl

/-! ## The block at an index -/

/-- The entry of batch row `j`, position `512 i + r` and column `d` before the normalisation, from the arrays the block
    is computed from. -/
def entry (x0 x1 x2 x3 : Vec Ideal S1x4x4096 .i32) (x4 : Vec Ideal S1x4x4096 .f32)
    (x5 x6 : Vec Ideal S512x768 .f32) (x7 x8 : Vec Ideal S16x768 .f32) (x9 : Vec Ideal S8x768 .f32)
    (p q : Fin 16) (j : Fin 4) (s : Fin 4096) (r : Fin 512) (d : Fin 768) : EReal :=
  (∑ k : Fin 16, Spec.coeff (x0 (ix3 0 j s)) (x1 (ix3 0 j s)) (x2 (ix3 0 j s)) (x3 (ix3 0 j s)) (x4 (ix3 0 j s)) k
      * Spec.tableRow (x9 (ix2 0 d)) (fun k => x8 (ix2 k d)) k)
    + (x5 (ix2 r d) * x7 (ix2 p d) + x6 (ix2 r d) * x7 (ix2 q d))

theorem off1_eq : ∀ i : grid0.Coords, ∀ a, k0_off1 i a = (![(i 0).val, 0] : Fin 2 → Nat) a := by decide +kernel
theorem off2_eq : ∀ i : grid0.Coords, ∀ a, k0_off2 i a = (![8 + (i 0).val, 0] : Fin 2 → Nat) a := by decide +kernel
theorem off3_eq : ∀ i : grid0.Coords, ∀ a, k0_off3 i a = (![0, 0, 512 * (i 0).val] : Fin 3 → Nat) a := by decide +kernel
theorem off4_eq : ∀ i : grid0.Coords, ∀ a, k0_off4 i a = (![0, 1, 512 * (i 0).val] : Fin 3 → Nat) a := by decide +kernel
theorem off5_eq : ∀ i : grid0.Coords, ∀ a, k0_off5 i a = (![0, 2, 512 * (i 0).val] : Fin 3 → Nat) a := by decide +kernel
theorem off6_eq : ∀ i : grid0.Coords, ∀ a, k0_off6 i a = (![0, 3, 512 * (i 0).val] : Fin 3 → Nat) a := by decide +kernel

/-- A load of 512 entries at batch row `j` from `512 n` on reads, at `r`, the entry `s = 512 n + r` of that row. -/
theorem load_apply {e : EltTy} (x : Vec Ideal S1x4x4096 e) (off : Fin 3 → Nat)
    (h : ∀ a, off a + S1x1x512.size a ≤ S1x4x4096.size a) (n : Nat) (j : Fin 4) (s : Fin 4096) (r : Fin 512)
    (ho : ∀ a, off a = (![0, j.val, 512 * n] : Fin 3 → Nat) a) (hs : s.val = 512 * n + r.val) :
    View.ld x (Rect.unit (s := S1x4x4096) off S1x1x512.size h) (ix3 0 0 r) = x (ix3 0 j s) :=
  View.ld_unit_apply_of x off S1x1x512.size h (ix3 0 0 r) (ix3 0 j s) fun a => by
    rw [ho a]
    match a with
    | ⟨0, _⟩ => rfl
    | ⟨1, _⟩ => rfl
    | ⟨2, _⟩ => exact hs

/-- A load of one row of a 768-column array reads that row. -/
theorem loadRow_apply {n : Nat} {e : EltTy} (x : (⟨2, ![n, 768]⟩ : Shape).Idx → Elt Ideal e) (off : Fin 2 → Nat)
    (h : ∀ a, off a + S1x768.size a ≤ (⟨2, ![n, 768]⟩ : Shape).size a) (k : Fin n) (d : Fin 768)
    (ho : ∀ a, off a = (![k.val, 0] : Fin 2 → Nat) a) :
    View.ld x (Rect.unit (s := ⟨2, ![n, 768]⟩) off S1x768.size h) (ix2 0 d) = x (ix2 k d) :=
  View.ld_unit_apply_of x off S1x768.size h (ix2 0 d) (ix2 k d) fun a => by
    rw [ho a]
    match a with
    | ⟨0, _⟩ => rfl
    | ⟨1, _⟩ => exact (Nat.zero_add _).symm

/-- One batch row's part of the block at an entry. -/
theorem part_apply (i : grid0.Coords) (x0 x1 x2 x3 : Vec Ideal S1x4x4096 .i32) (x4 : Vec Ideal S1x4x4096 .f32)
    (x5 x6 : Vec Ideal S512x768 .f32) (x7 x8 : Vec Ideal S16x768 .f32) (x9 : Vec Ideal S8x768 .f32)
    (off : Fin 3 → Nat) (h : ∀ a, off a + S1x1x512.size a ≤ S1x4x4096.size a) (p q : Fin 16) (j : Fin 4) (s : Fin 4096)
    (r : Fin 512) (d : Fin 768) (ho : ∀ a, off a = (![0, j.val, 512 * (i 0).val] : Fin 3 → Nat) a)
    (hp : p.val = (i 0).val) (hq : q.val = 8 + (i 0).val) (hs : s.val = 512 * (i 0).val + r.val) :
    part (F := Ideal) i x0 x1 x2 x3 x4 x5 x6 x7 x8 x9 off h (ix3 0 r d)
      = Spec.normed (x9 (ix2 1 d)) (x9 (ix2 2 d)) (entry x0 x1 x2 x3 x4 x5 x6 x7 x8 x9 p q j s r) d := by
  unfold part rows
  rw [shapeCast_ab_1ab_apply, normalised_apply]
  unfold k0_pay2 k0_pay3
  simp only [shapeCast_self]
  rw [show param (F := Ideal) x9 1 inb_S8x768_S1x768_1_0 (ix2 0 d) = x9 (ix2 1 d) from loadRow_apply x9 _ _ 1 d fun a => rfl,
    show param (F := Ideal) x9 2 inb_S8x768_S1x768_2_0 (ix2 0 d) = x9 (ix2 2 d) from loadRow_apply x9 _ _ 2 d fun a => rfl]
  congr 1
  funext d
  rw [embedded_apply, posEnc_apply, loadRow_apply x7 _ _ p d fun a => by rw [hp]; exact off1_eq i a,
    loadRow_apply x7 _ _ q d fun a => by rw [hq]; exact off2_eq i a]
  rw [View.ld_unit_lit _ x5 (by decide), View.ld_unit_lit _ x6 (by decide)]
  unfold entry
  congr 1
  refine Finset.sum_congr rfl fun k _ => ?_
  rw [coeffs_apply, table_apply,
    show param (F := Ideal) x9 0 inb_S8x768_S1x768_0_0 (ix2 0 d) = x9 (ix2 0 d) from loadRow_apply x9 _ _ 0 d fun a => rfl, View.ld_unit_lit _ x8 (by decide)]
  rw [load_apply x0 off h _ j s r ho hs, load_apply x1 off h _ j s r ho hs, load_apply x2 off h _ j s r ho hs,
    load_apply x3 off h _ j s r ho hs, load_apply x4 off h _ j s r ho hs]

variable (m : (ℓ : Loc nD τ sig) → Buf (Elt Ideal) ℓ)

/-- The block a grid point leaves, at an entry. -/
theorem outsAt_apply (c : Dev nD) (t : Fin cfg0.N) (p q : Fin 16) (j : Fin 4) (s : Fin 4096) (r : Fin 512) (d : Fin 768)
    (hp : p.val = (grid0.coords t 0).val) (hq : q.val = 8 + (grid0.coords t 0).val)
    (hs : s.val = 512 * (grid0.coords t 0).val + r.val) :
    outsAt0 m c t (ix3 j r d)
      = Spec.normed ((iblk m c 9 t : Vec Ideal S8x768 .f32) (ix2 1 d)) ((iblk m c 9 t : Vec Ideal S8x768 .f32) (ix2 2 d))
          (entry (iblk m c 0 t) (iblk m c 1 t) (iblk m c 2 t) (iblk m c 3 t) (iblk m c 4 t) (iblk m c 5 t) (iblk m c 6 t)
            (iblk m c 7 t) (iblk m c 8 t) (iblk m c 9 t) p q j s r) d := by
  rw [outsAt_eq]
  have key : ∀ (n : Fin 4) (off : Fin 3 → Nat) (h) (ho : ∀ a, off a = (![0, n.val, 512 * (grid0.coords t 0).val] : Fin 3 → Nat) a),
      View.TileAt (Val := Elt Ideal) (e := .f32) (S := S4x512x768) (ix3 j r d) ![n.val, 0, 0] S1x512x768.size
        (part (F := Ideal) (grid0.coords t) (iblk m c 0 t) (iblk m c 1 t) (iblk m c 2 t) (iblk m c 3 t) (iblk m c 4 t)
          (iblk m c 5 t) (iblk m c 6 t) (iblk m c 7 t) (iblk m c 8 t) (iblk m c 9 t) off h)
        (Spec.normed ((iblk m c 9 t : Vec Ideal S8x768 .f32) (ix2 1 d)) ((iblk m c 9 t : Vec Ideal S8x768 .f32) (ix2 2 d))
          (entry (iblk m c 0 t) (iblk m c 1 t) (iblk m c 2 t) (iblk m c 3 t) (iblk m c 4 t) (iblk m c 5 t) (iblk m c 6 t)
            (iblk m c 7 t) (iblk m c 8 t) (iblk m c 9 t) p q j s r) d) := by
    intro n off h ho x hx
    have h0 : j.val = n.val + (x 0).val := hx 0
    have h1 : r.val = 0 + (x 1).val := hx 1
    have h2 : d.val = 0 + (x 2).val := hx 2
    have hx0 : (x 0).val < 1 := (x 0).isLt
    have hn : n = j := Fin.ext (by omega)
    subst hn
    have hxe : x = ix3 0 r d := funext fun a => Fin.ext (by
      match a with
      | ⟨0, _⟩ => show (x 0).val = 0; omega
      | ⟨1, _⟩ => show (x 1).val = r.val; omega
      | ⟨2, _⟩ => show (x 2).val = d.val; omega)
    rw [hxe]
    exact part_apply _ _ _ _ _ _ _ _ _ _ _ off h p q n s r d ho hp hq hs
  refine View.canon_eq_of_allAt _ _ _ ?_ ?_
  · exact View.cover_of_tiled_head _ _ _ rfl _
  · refine View.allAt_cons_unit _ _ _ _ _ (key 3 _ _ (off6_eq _)) ?_
    refine View.allAt_cons_unit _ _ _ _ _ (key 2 _ _ (off5_eq _)) ?_
    refine View.allAt_cons_unit _ _ _ _ _ (key 1 _ _ (off4_eq _)) ?_
    refine View.allAt_cons_unit _ _ _ _ _ (key 0 _ _ (off3_eq _)) ?_
    exact View.allAt_nil _ _

end Cert.KernelIdeal.Block
-- ==== Proof.Reals.lean ====
/-
  Real numbers among the extended reals: the constants the two programs print, the frequencies of the positional
  encoding, and the elementary functions at a real argument.
-/
module

public import Idealize.ShloMosaic.PureOps.Ideal.Laws
public import Idealize.ShloMosaic.Lib.IdealHost

@[expose] public section

noncomputable section

namespace Cert.Spec

open Idealize.ShloMosaic

/-- The printed exponent of the positional encoding, about `-ln 10000 / 768`, as a real number. -/
def exponent : ℝ := -(12876989 * (2 ^ 30)⁻¹)

/-- The printed guard added to a variance, `1e-12` rounded to its type, as a real number. -/
def guard : ℝ := 9223372 * (2 ^ 63)⁻¹

/-- The frequency of column pair `k`. -/
def freq (k : ℕ) : ℝ := Real.exp ((0 + 2 * (k : ℝ)) * exponent)

theorem ofBits_exponent : Ideal.ofBits .f32 0xBC447CBD#32 = ((exponent : ℝ) : EReal) := by
  simp [exponent, Ideal.ofBits, Ideal.ieee, ← EReal.coe_mul]

theorem ofBits_guard : Ideal.ofBits .f32 0x2B8CBCCC#32 = ((guard : ℝ) : EReal) := by
  simp [guard, Ideal.ofBits, Ideal.ieee, ← EReal.coe_mul]

theorem guard_pos : 0 < guard := by norm_num [guard]

theorem ofBits_two : Ideal.ofBits .f32 0x40000000#32 = ((2 : ℝ) : EReal) := by
  simp [Ideal.ofBits, Ideal.ieee, ← EReal.coe_mul]
  norm_num

theorem ofBits_512 : Ideal.ofBits .f32 0x44000000#32 = ((512 : ℝ) : EReal) := by
  simp [Ideal.ofBits, Ideal.ieee, ← EReal.coe_mul]
  norm_num

theorem ofBits_768 : Ideal.ofBits .f32 0x44400000#32 = ((768 : ℝ) : EReal) := by
  simp [Ideal.ofBits, Ideal.ieee, ← EReal.coe_mul]
  norm_num

/-- A small natural number, read as a signed word and turned into a float, is that number. -/
theorem sitofp_ofNat (n : ℕ) (h : n < 2 ^ 31) :
    FloatOps.sitofp (F := Ideal) .f32 (BitVec.ofNat 32 n) = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat]
    omega
  rw [e]; norm_cast

/-- The printed frequency of column pair `k` is `freq k`. -/
theorem freq_eq (k : ℕ) (h : k < 2 ^ 31) :
    FloatOps.hostUnary (F := Ideal) (φ := .f32) .exp
      (FloatOps.mulf (FloatOps.addf (FloatOps.ofBits .f32 0x00000000#32)
        (FloatOps.mulf (FloatOps.ofBits .f32 0x40000000#32) (FloatOps.sitofp .f32 (BitVec.ofNat 32 k))))
        (FloatOps.ofBits .f32 0xBC447CBD#32)) = ((freq k : ℝ) : EReal) := by
  rw [sitofp_ofNat k h]
  show Ideal.exp ((Ideal.ofBits .f32 0x00000000#32 + Ideal.ofBits .f32 0x40000000#32 * ((k : ℝ) : EReal))
    * Ideal.ofBits .f32 0xBC447CBD#32) = _
  rw [Ideal.ofBits_zero_f32, ofBits_two, ofBits_exponent, ← EReal.coe_zero, ← EReal.coe_mul, ← EReal.coe_add, ← EReal.coe_mul]
  rfl

/-- The sine of a real, as the programs take it, is the real sine; -/
theorem sin_coe (x : ℝ) : FloatOps.hostUnary (F := Ideal) (φ := .f32) .sin ((x : ℝ) : EReal) = ((Real.sin x : ℝ) : EReal) := rfl

/-- and so the cosine, -/
theorem cos_coe (x : ℝ) : FloatOps.hostUnary (F := Ideal) (φ := .f32) .cos ((x : ℝ) : EReal) = ((Real.cos x : ℝ) : EReal) := rfl

/-- the product -/
theorem mulf_coe (x y : ℝ) : FloatOps.mulf (F := Ideal) (φ := .f32) ((x : ℝ) : EReal) ((y : ℝ) : EReal) = ((x * y : ℝ) : EReal) := by
  show (x : EReal) * (y : EReal) = _
  norm_cast

/-- and the negative. -/
theorem negf_coe (x : ℝ) : FloatOps.hostNegf (F := Ideal) (φ := .f32) ((x : ℝ) : EReal) = ((-x : ℝ) : EReal) := by
  show -(x : EReal) = _
  norm_cast

/-- The positional encoding of position `s` in column `d`: a sine in an even column, a cosine in an odd one. -/
def posEnc (s d : ℕ) : ℝ :=
  if d % 2 = 0 then Real.sin (s * freq (d / 2)) else Real.cos (s * freq (d / 2))

/-- The encoding of position `512 i + r`, assembled from the sine and cosine of `r` and those of `512 i` (the angle
    addition formulas). -/
theorem posEnc_add (i r d : ℕ) :
    Real.sin (r * freq (d / 2)) * (if d % 2 = 0 then Real.cos (i * 512 * freq (d / 2)) else -Real.sin (i * 512 * freq (d / 2)))
      + Real.cos (r * freq (d / 2)) * (if d % 2 = 0 then Real.sin (i * 512 * freq (d / 2)) else Real.cos (i * 512 * freq (d / 2)))
      = posEnc (512 * i + r) d := by
  have e : ((512 * i + r : ℕ) : ℝ) * freq (d / 2) = r * freq (d / 2) + i * 512 * freq (d / 2) := by push_cast; ring
  unfold posEnc
  split_ifs
  · rw [e, Real.sin_add]
  · rw [e, Real.cos_add]; ring

end Cert.Spec
-- ==== Proof.HostTables.lean ====
/-
  What the kernel's host operations leave in the arrays the blocks are cut from, read at one index over the extended
  reals: tokens and pitch copied, the sine and cosine tables of the positional encoding, the stacked embedding tables
  and the parameter rows.
-/
module

public import proofs.«01_k».proof.Proof.Block
public import proofs.«01_k».proof.Proof.Reals
public import Idealize.ShloMosaic.Lib.ValueIdx
public import Idealize.ShloMosaic.Lib.StableHlo.ReadAt
public import Idealize.ShloMosaic.Lib.StableHlo.RunRead

@[expose] public section

set_option maxRecDepth 16384

noncomputable section

namespace Cert.KernelIdeal.Host

open Idealize.ShloMosaic hiding ix0 ix1 ix2 ix3
open Idealize.ShloMosaic.TcCoe Idealize.ShloMosaic.ValueIdx
open Cert.KernelIdeal Cert.KernelIdeal.Gen

variable (m : (ℓ : Loc nD τ sig) → Buf (Elt Ideal) ℓ) (c : Dev nD)

/-! ## Tokens and pitch -/

theorem tokens0_apply (b : Fin 4) (s : Fin 4096) : V m c main_v45 (ix3 0 b s) = m ((c : Thread nD τ).loc main_arg1) (ix2 b s) := by
  unfold V
  after_reads_at
  rfl

theorem tokens1_apply (b : Fin 4) (s : Fin 4096) : V m c main_v46 (ix3 0 b s) = m ((c : Thread nD τ).loc main_arg2) (ix2 b s) := by
  unfold V
  after_reads_at
  rfl

theorem tokens2_apply (b : Fin 4) (s : Fin 4096) : V m c main_v47 (ix3 0 b s) = m ((c : Thread nD τ).loc main_arg3) (ix2 b s) := by
  unfold V
  after_reads_at
  rfl

theorem tokens3_apply (b : Fin 4) (s : Fin 4096) : V m c main_v48 (ix3 0 b s) = m ((c : Thread nD τ).loc main_arg4) (ix2 b s) := by
  unfold V
  after_reads_at
  rfl

theorem pitch_apply (b : Fin 4) (s : Fin 4096) : V m c main_v50 (ix3 0 b s) = m ((c : Thread nD τ).loc main_arg0) (ix3 b s 0) := by
  unfold V
  after_reads_at
  rfl

/-! ## The positional encoding's tables -/

/-- Row `r` of the sine table of the offsets inside a tile. -/
theorem sinTable_apply (r : Fin 512) (d : Fin 768) :
    V m c main_v16 (ix2 r d) = ((Real.sin (r.val * Spec.freq (d.val / 2)) : ℝ) : EReal) := by
  unfold V
  after_reads_at
  rw [show (ix2 r d 1).val = d.val from rfl, show (ix2 r d 0).val = r.val from rfl, Spec.freq_eq _ (by omega),
    Spec.sitofp_ofNat _ (by omega), Spec.mulf_coe, Spec.sin_coe]

/-- Row `r` of the cosine table of the offsets inside a tile. -/
theorem cosTable_apply (r : Fin 512) (d : Fin 768) :
    V m c main_v21 (ix2 r d) = ((Real.cos (r.val * Spec.freq (d.val / 2)) : ℝ) : EReal) := by
  unfold V
  after_reads_at
  rw [show (ix2 r d 1).val = d.val from rfl, show (ix2 r d 0).val = r.val from rfl, Spec.freq_eq _ (by omega),
    Spec.sitofp_ofNat _ (by omega), Spec.mulf_coe, Spec.cos_coe]

/-- The sines of the tiles' first positions. -/
theorem tileSin_apply (p : Fin 8) (d : Fin 768) :
    V m c main_v30 (ix2 p d) = ((Real.sin (p.val * 512 * Spec.freq (d.val / 2)) : ℝ) : EReal) := by
  unfold V
  after_reads_at
  rw [show (ix2 p d 1).val = d.val from rfl, show (ix2 p d 0).val = p.val from rfl, Spec.freq_eq _ (by omega),
    Spec.sitofp_ofNat _ (by omega), Ideal.ofBits_def, Spec.ofBits_512, Spec.mulf_coe, Spec.mulf_coe, Spec.sin_coe]

/-- The cosines of the tiles' first positions. -/
theorem tileCos_apply (p : Fin 8) (d : Fin 768) :
    V m c main_v35 (ix2 p d) = ((Real.cos (p.val * 512 * Spec.freq (d.val / 2)) : ℝ) : EReal) := by
  unfold V
  after_reads_at
  rw [show (ix2 p d 1).val = d.val from rfl, show (ix2 p d 0).val = p.val from rfl, Spec.freq_eq _ (by omega),
    Spec.sitofp_ofNat _ (by omega), Ideal.ofBits_def, Spec.ofBits_512, Spec.mulf_coe, Spec.mulf_coe, Spec.cos_coe]

theorem parity_apply (d : Fin 768) : V m c main_v40 (ix2 0 d) = BitVec.ofBool (d.val % 2 == 0) := by
  unfold V
  after_reads_at
  revert d
  decide +kernel

set_option maxHeartbeats 2000000 in
/-- The two stacked tile tables, entry by entry from their parts: even columns are turned one way, odd ones the other. -/
theorem turns_apply (p : Fin 16) (d : Fin 768) :
    V m c main_v44 (ix2 p d) =
      if h : p.val < 8 then
        Scalar.select (V m c main_v40 (ix2 0 d)) (V m c main_v35 (ix2 ⟨p.val, h⟩ d))
          (FloatOps.hostNegf (F := Ideal) (φ := .f32) (V m c main_v30 (ix2 ⟨p.val, h⟩ d)))
      else Scalar.select (V m c main_v40 (ix2 0 d)) (V m c main_v30 (ix2 ⟨p.val - 8, by omega⟩ d))
          (V m c main_v35 (ix2 ⟨p.val - 8, by omega⟩ d)) := by
  unfold V
  after_reads_at

/-- What the sine of an offset is multiplied by in tile `i`: the cosine of the tile's first angle in an even column,
    the negated sine in an odd one. -/
theorem turnSin_apply (i : Fin 8) (p : Fin 16) (hp : p.val = i.val) (d : Fin 768) :
    V m c main_v44 (ix2 p d) = (((if d.val % 2 = 0 then Real.cos (i.val * 512 * Spec.freq (d.val / 2))
      else -Real.sin (i.val * 512 * Spec.freq (d.val / 2))) : ℝ) : EReal) := by
  rw [turns_apply, dif_pos (by omega), parity_apply, tileSin_apply, tileCos_apply, Spec.negf_coe]
  simp only [hp]
  by_cases h : d.val % 2 = 0
  · simp [h, Scalar.select]
  · simp [h, show (d.val % 2 == 0) = false by simpa using h, Scalar.select]

/-- What the cosine of an offset is multiplied by in tile `i`: the sine of the tile's first angle in an even column,
    its cosine in an odd one. -/
theorem turnCos_apply (i : Fin 8) (p : Fin 16) (hp : p.val = 8 + i.val) (d : Fin 768) :
    V m c main_v44 (ix2 p d) = (((if d.val % 2 = 0 then Real.sin (i.val * 512 * Spec.freq (d.val / 2))
      else Real.cos (i.val * 512 * Spec.freq (d.val / 2))) : ℝ) : EReal) := by
  rw [turns_apply, dif_neg (by omega), parity_apply, tileSin_apply, tileCos_apply]
  simp only [show p.val - 8 = i.val by omega]
  by_cases h : d.val % 2 = 0
  · simp [h, Scalar.select]
  · simp [h, show (d.val % 2 == 0) = false by simpa using h, Scalar.select]

/-! ## The stacked tables and the parameter rows -/

/-- The stacked tables: five rows, two, six and two of the embedding tables, then the pitch weights. -/
theorem stack_apply (k : Fin 16) (d : Fin 768) :
    V m c main_v52 (ix2 k d) =
      if h : k.val < 5 then m ((c : Thread nD τ).loc main_arg7) (ix2 ⟨k.val, h⟩ d)
      else if h : k.val - 5 < 2 then m ((c : Thread nD τ).loc main_arg8) (ix2 ⟨k.val - 5, h⟩ d)
      else if h : k.val - 5 - 2 < 6 then m ((c : Thread nD τ).loc main_arg9) (ix2 ⟨k.val - 5 - 2, h⟩ d)
      else if h : k.val - 5 - 2 - 6 < 2 then m ((c : Thread nD τ).loc main_arg10) (ix2 ⟨k.val - 5 - 2 - 6, h⟩ d)
      else m ((c : Thread nD τ).loc main_arg5) (ix2 d 0) := by
  unfold V
  after_reads_at
  refine dite_congr rfl (fun _ => rfl) fun _ => dite_congr rfl (fun _ => rfl) fun _ => dite_congr rfl (fun _ => rfl) fun _ =>
    dite_congr rfl (fun _ => rfl) fun _ => ?_
  refine (congrFun (StableHlo.unary_result' ..) _).trans ?_
  after_reads_at
  exact congrArg (fun z : Fin 1 => m ((c : Thread nD τ).loc main_arg5) (ix2 d z)) (Subsingleton.elim _ _)

/-- The bias row. -/
theorem bias_apply (d : Fin 768) : V m c main_v57 (ix2 0 d) = m ((c : Thread nD τ).loc main_arg6) (ix1 d) := by
  unfold V
  after_reads_at
  rw [StableHlo.unary_result']
  after_reads_at
  rfl

/-- The scale row. -/
theorem gamma_apply (d : Fin 768) : V m c main_v57 (ix2 1 d) = m ((c : Thread nD τ).loc main_arg11) (ix1 d) := by
  unfold V
  after_reads_at
  rw [StableHlo.unary_result']
  after_reads_at
  rfl

/-- The shift row. -/
theorem beta_apply (d : Fin 768) : V m c main_v57 (ix2 2 d) = m ((c : Thread nD τ).loc main_arg12) (ix1 d) := by
  unfold V
  after_reads_at
  rw [StableHlo.unary_result']
  after_reads_at
  rfl

end Cert.KernelIdeal.Host
-- ==== Proof.KernelValue.lean ====
/-
  The kernel's result array at one index, from the arguments: the blocks' entries placed in the array, and every block
  read back to the host arrays it was cut from.
-/
module

public import proofs.«01_k».proof.Proof.BlockValue
public import proofs.«01_k».proof.Proof.HostTables
public import proofs.«01_k».proof.Proof.Gen.KernelIdeal.Value
public import Idealize.ShloMosaic.Lib.Pipeline.Value

@[expose] public section

set_option maxRecDepth 16384

noncomputable section

namespace Cert.Spec

open Idealize.ShloMosaic

/-- Row `k` of the sixteen stacked table rows of one column: five, two, six and two embedding entries, then the pitch
    weight `w`. -/
def stack (t1 : Fin 5 → EReal) (t2 : Fin 2 → EReal) (t3 : Fin 6 → EReal) (t4 : Fin 2 → EReal) (w : EReal) (k : Fin 16) : EReal :=
  if h : k.val < 5 then t1 ⟨k.val, h⟩
  else if h : k.val - 5 < 2 then t2 ⟨k.val - 5, h⟩
  else if h : k.val - 5 - 2 < 6 then t3 ⟨k.val - 5 - 2, h⟩
  else if h : k.val - 5 - 2 - 6 < 2 then t4 ⟨k.val - 5 - 2 - 6, h⟩
  else w

end Cert.Spec

namespace Cert.KernelIdeal.Array

open Idealize.ShloMosaic hiding ix0 ix1 ix2 ix3
open Idealize.ShloMosaic.TcCoe Idealize.ShloMosaic.ValueIdx
open Cert.KernelIdeal Cert.KernelIdeal.Gen

variable (m : (ℓ : Loc nD τ sig) → Buf (Elt Ideal) ℓ) (c : Dev nD) (t : Fin cfg0.N)

/-! ## Every block fetched is the whole of its array -/

/-- An input window's block sits in its array at the same coordinates. -/
theorem emb_val (w : Fin cfg0.W) (hw : w ≠ 10) (y : ((cfg0.win w).xblock (cfg0.grid.coords t)).Idx)
    (a : Fin (cfg0.win w).shape.rank) : (((cfg0.win w).rect t).emb y a : Nat) = y a :=
  (cfg0.win w).rect_emb_val_of_index_zero t a
    ((by decide +kernel : ∀ w : Fin 11, w ≠ 10 → ∀ t : Fin grid0.N, ∀ a, (win0 w).index t a = 0) w hw t a) y

theorem iblk0_apply (y : S1x4x4096.Idx) : iblk m c 0 t y = V m c main_v45 y :=
  congrArg (V m c main_v45) (funext fun a => Fin.ext (emb_val t 0 (by decide) y a))

theorem iblk1_apply (y : S1x4x4096.Idx) : iblk m c 1 t y = V m c main_v46 y :=
  congrArg (V m c main_v46) (funext fun a => Fin.ext (emb_val t 1 (by decide) y a))

theorem iblk2_apply (y : S1x4x4096.Idx) : iblk m c 2 t y = V m c main_v47 y :=
  congrArg (V m c main_v47) (funext fun a => Fin.ext (emb_val t 2 (by decide) y a))

theorem iblk3_apply (y : S1x4x4096.Idx) : iblk m c 3 t y = V m c main_v48 y :=
  congrArg (V m c main_v48) (funext fun a => Fin.ext (emb_val t 3 (by decide) y a))

theorem iblk4_apply (y : S1x4x4096.Idx) : iblk m c 4 t y = V m c main_v50 y :=
  congrArg (V m c main_v50) (funext fun a => Fin.ext (emb_val t 4 (by decide) y a))

theorem iblk5_apply (y : S512x768.Idx) : iblk m c 5 t y = V m c main_v16 y :=
  congrArg (V m c main_v16) (funext fun a => Fin.ext (emb_val t 5 (by decide) y a))

theorem iblk6_apply (y : S512x768.Idx) : iblk m c 6 t y = V m c main_v21 y :=
  congrArg (V m c main_v21) (funext fun a => Fin.ext (emb_val t 6 (by decide) y a))

theorem iblk7_apply (y : S16x768.Idx) : iblk m c 7 t y = V m c main_v44 y :=
  congrArg (V m c main_v44) (funext fun a => Fin.ext (emb_val t 7 (by decide) y a))

theorem iblk8_apply (y : S16x768.Idx) : iblk m c 8 t y = V m c main_v52 y :=
  congrArg (V m c main_v52) (funext fun a => Fin.ext (emb_val t 8 (by decide) y a))

theorem iblk9_apply (y : S8x768.Idx) : iblk m c 9 t y = V m c main_v57 y :=
  congrArg (V m c main_v57) (funext fun a => Fin.ext (emb_val t 9 (by decide) y a))

/-! ## One entry before the layer norm -/

/-- The stacked tables' column `d`. -/
def stackCol (d : Fin 768) : Fin 16 → EReal :=
  Spec.stack (fun k => m ((c : Thread nD τ).loc main_arg7) (ix2 k d)) (fun k => m ((c : Thread nD τ).loc main_arg8) (ix2 k d))
    (fun k => m ((c : Thread nD τ).loc main_arg9) (ix2 k d)) (fun k => m ((c : Thread nD τ).loc main_arg10) (ix2 k d))
    (m ((c : Thread nD τ).loc main_arg5) (ix2 d 0))

/-- The kernel's embedding of position `s` of batch row `b` in column `d`, positional encoding added. -/
def row (b : Fin 4) (s : Fin 4096) (d : Fin 768) : EReal :=
  (∑ k : Fin 16, Spec.coeff (m ((c : Thread nD τ).loc main_arg1) (ix2 b s)) (m ((c : Thread nD τ).loc main_arg2) (ix2 b s))
      (m ((c : Thread nD τ).loc main_arg3) (ix2 b s)) (m ((c : Thread nD τ).loc main_arg4) (ix2 b s))
      (m ((c : Thread nD τ).loc main_arg0) (ix3 b s 0)) k
    * Spec.tableRow (m ((c : Thread nD τ).loc main_arg6) (ix1 d)) (stackCol m c d) k)
  + ((Spec.posEnc s.val d.val : ℝ) : EReal)

theorem stack_col (k : Fin 16) (d : Fin 768) : V m c main_v52 (ix2 k d) = stackCol m c d k := Host.stack_apply m c k d

/-- A block's entry before the layer norm, at tile `i`, offset `r`, is that embedding at position `512 i + r`. -/
theorem entry_eq (i : Fin 8) (p q : Fin 16) (b : Fin 4) (s : Fin 4096) (r : Fin 512) (d : Fin 768)
    (hp : p.val = i.val) (hq : q.val = 8 + i.val) (hs : s.val = 512 * i.val + r.val) :
    Block.entry (iblk m c 0 t) (iblk m c 1 t) (iblk m c 2 t) (iblk m c 3 t) (iblk m c 4 t) (iblk m c 5 t) (iblk m c 6 t)
      (iblk m c 7 t) (iblk m c 8 t) (iblk m c 9 t) p q b s r d = row m c b s d := by
  unfold Block.entry row
  rw [iblk0_apply, iblk1_apply, iblk2_apply, iblk3_apply, iblk4_apply, iblk5_apply, iblk6_apply, iblk7_apply, iblk7_apply,
    iblk9_apply, Host.tokens0_apply, Host.tokens1_apply, Host.tokens2_apply, Host.tokens3_apply, Host.pitch_apply,
    Host.sinTable_apply, Host.cosTable_apply, Host.turnSin_apply m c i p hp, Host.turnCos_apply m c i q hq, Host.bias_apply,
    ← EReal.coe_mul, ← EReal.coe_mul, ← EReal.coe_add, Spec.posEnc_add, ← hs]
  exact congrArg (· + _) (Finset.sum_congr rfl fun k _ => congrArg (fun z => _ * Spec.tableRow _ z k)
    (funext fun k => (iblk8_apply m c t (ix2 k d)).trans (stack_col m c k d)))

/-! ## The array -/

/-- The result array at position `s` of batch row `b`, column `d`: the embedding's row, normalised. -/
theorem final_apply (b : Fin 4) (s : Fin 4096) (d : Fin 768) :
    (dats m 0 c).arrAt 10 cfg0.N (ix3 b s d)
      = Spec.normed (m ((c : Thread nD τ).loc main_arg11) (ix1 d)) (m ((c : Thread nD τ).loc main_arg12) (ix1 d))
          (row m c b s) d := by
  have hN : cfg0.N = 8 := N_0
  have hi : s.val / 512 < 8 := by omega
  let t : Fin cfg0.N := ⟨s.val / 512, by omega⟩
  have ht : (grid0.coords t 0).val = s.val / 512 :=
    (by decide +kernel : ∀ t : Fin grid0.N, (grid0.coords t 0).val = t.val) t
  have hw : ∀ a, (cfg0.win 10).index t a = (![0, s.val / 512, 0] : Fin 3 → Nat) a := by
    intro a
    exact ((by decide +kernel : ∀ t : Fin grid0.N, ∀ a, (win0 10).index t a = (![0, t.val, 0] : Fin 3 → Nat) a) t a)
  let r : Fin 512 := ⟨s.val % 512, by omega⟩
  have hs : s.val = 512 * (s.val / 512) + r.val := by show s.val = 512 * (s.val / 512) + s.val % 512; omega
  have hemb : ((cfg0.win 10).blk t).view.emb (ix3 b r d : S4x512x768.Idx) = (ix3 b s d : S4x4096x768.Idx) := by
    refine funext fun a => Fin.ext (((cfg0.win 10).rect_emb_val t (ix3 b r d : S4x512x768.Idx) a).trans ?_)
    rw [hw a]
    match a with
    | ⟨0, _⟩ => show 0 * 4 + b.val = b.val; omega
    | ⟨1, _⟩ => show s.val / 512 * 512 + r.val = s.val; omega
    | ⟨2, _⟩ => show 0 * 768 + d.val = d.val; omega
  have h := (dats m 0 c).arrAt_emb_eq_flushed 10 Value.disjoint10 t (flush0_10 t) (ix3 b r d : S4x512x768.Idx)
  rw [hemb] at h
  refine h.trans ?_
  show (dats m 0 c).flushed 10 t (ix3 b r d : S4x512x768.Idx) = _
  rw [Value.flushed10]
  refine Eq.trans (show _ = outsAt0 m c t (ix3 b r d) from rfl) ?_
  rw [Block.outsAt_apply m c t ⟨s.val / 512, by omega⟩ ⟨8 + s.val / 512, by omega⟩ b s r d ht.symm (congrArg (8 + ·) ht.symm)
    (by rw [ht]; exact hs), iblk9_apply, iblk9_apply, Host.gamma_apply, Host.beta_apply]
  exact congrArg (fun y => Spec.normed _ _ y d)
    (funext fun e => entry_eq m c t ⟨s.val / 512, hi⟩ _ _ b s r e rfl rfl hs)

end Cert.KernelIdeal.Array
-- ==== Proof.Lookup.lean ====
/-
  A table lookup as the reference spells it: the row index wrapped when negative, the row gathered, and a fill value
  selected where the index is out of range.  `lookup_apply` reads it where the index is in range, for a table of any
  height.
-/
module

public import proofs.«01_k».proof.Proof.Gen.ReferenceIdeal.Read
public import Idealize.ShloMosaic.Lib.ValueIdx
public import Idealize.ShloMosaic.PureOps.Ideal.Laws

@[expose] public section

set_option maxRecDepth 16384

noncomputable section

namespace Cert.ReferenceIdeal.Lookup

open Idealize.ShloMosaic Idealize.ShloMosaic.TcCoe Idealize.ShloMosaic.ValueIdx
open Cert.ReferenceIdeal Cert.ReferenceIdeal.Gen

/-- The gather of whole rows of a table of height `n`, one row index per batch row and position. -/
abbrev rowsOf (n : ℕ) (wf : GatherDims.WF ⟨2, ![n, 768]⟩ S4x4096x1 S4x4096x768 [2] [0] [] [0] [] 2 ![1, 768]) :
    GatherDims ⟨2, ![n, 768]⟩ S4x4096x1 S4x4096x768 where
  offsetDims := [2]
  collapsedSliceDims := [0]
  operandBatchingDims := []
  startIndicesBatchingDims := []
  startIndexMap := [0]
  indexVectorDim := 2
  sliceSizes := ![1, 768]
  wf := wf

/-- Such a gather at an entry whose row index is in range: the table's entry in that row. -/
theorem gather_apply {α : Type} (n : ℕ) (wf) (x : (⟨2, ![n, 768]⟩ : Shape).Idx → α) (idx : IVec S4x4096x1 32)
    (b : Fin 4) (s : Fin 4096) (d : Fin 768) (k : Fin n) (hk : (idx (ix3 b s 0)).toInt = (k.val : ℤ)) :
    Host.gather (rowsOf n wf) x idx (ix3 b s d) = x (ix2 k d) := by
  unfold Host.gather
  congr 1
  funext a
  refine Fin.ext ?_
  show (rowsOf n wf).start (ix3 b s d) idx a + (rowsOf n wf).batchCoord (ix3 b s d) a + (rowsOf n wf).offCoord (ix3 b s d) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin 2) ∈ (rowsOf n wf).startIndexMap from List.mem_singleton.mpr rfl)]
    have hsi : (rowsOf n wf).siIdx (ix3 b s d) ⟨List.idxOf (⟨0, h0⟩ : Fin 2) (rowsOf n wf).startIndexMap,
        List.idxOf_lt_length_iff.2 (List.mem_singleton.mpr rfl)⟩ = ix3 b s 0 := by
      funext z; refine Fin.ext ?_
      match z with
      | ⟨0, _⟩ => rfl
      | ⟨1, _⟩ => rfl
      | ⟨2, _⟩ => rfl
    rw [hsi, hk]
    show min (k.val : ℤ).toNat (n - 1) = k.val
    have := k.isLt
    rw [Int.toNat_natCast]
    omega
  | ⟨1, h1⟩ =>
    unfold GatherDims.start
    rw [dif_neg (fun h => absurd (congrArg Fin.val (List.mem_singleton.mp h)) Nat.one_ne_zero), Nat.zero_add]
    rfl

/-- A conjunction over an axis of length one, at an index where its one entry is true. -/
theorem all_apply (x : IVec S4x4096x1 1) (v : IVec S_ 1) (h : S4x4096x1.ReducesTo [2] S4x4096) (b : Fin 4) (s : Fin 4096)
    (hv : v = fun _ => 1#1) (hx : x (ix3 b s 0) = 1#1) :
    Host.reduce IntOp.andi x v h h_S_ (ix2 b s) = 1#1 := by
  have hr : S4x4096x1.Reduces [2] S4x4096 := by decide
  rw [Host.reduce_eq_fold_single IntOp.andi x v h hr h_S_, hv]
  refine (Finset.fold_congr (g := fun _ => 1#1) (fun k _ => ?_)).trans (by decide)
  refine Eq.trans (congrArg x (funext fun a => Fin.ext ?_)) hx
  match a with
  | ⟨0, _⟩ => rfl
  | ⟨1, _⟩ => rfl
  | ⟨2, _⟩ => show k.val = 0; have : k.val < 1 := k.isLt; omega

/-- The words of a lookup with an index `k` in range of a table of height `n`: the index is kept as it is, and the range test holds. -/
theorem words : ∀ n : Fin 7, ∀ k : Fin 6, k.val < n.val → ∀ t : BitVec 32, t = BitVec.ofNat 32 k.val →
    Scalar.select (IntOp.cmpi .slt t 0#32) (IntOp.addi t (BitVec.ofNat 32 n.val)) t = t
    ∧ IntOp.andi (IntOp.cmpi .sge t 0#32) (IntOp.cmpi .sle t (BitVec.ofNat 32 (n.val - 1))) = 1#1
    ∧ t.toInt = (k.val : ℤ) := by
  intro n k h t ht
  subst ht
  revert n k
  decide

/-- The whole lookup at an entry whose row index is in range: the table's entry in that row. -/
theorem lookup_apply (n : ℕ) (wf) (x : FVec Ideal ⟨2, ![n, 768]⟩ .f32) (mask : IVec S4x4096x1 1) (v : IVec S_ 1)
    (idx : IVec S4x4096x1 32) (fill : FVec Ideal S4x4096x768 .f32) (h : S4x4096x1.ReducesTo [2] S4x4096)
    (ok : IVec S4x4096x768 1) (b : Fin 4) (s : Fin 4096) (d : Fin 768) (k : Fin n)
    (hok : ok (ix3 b s d) = Host.reduce IntOp.andi mask v h h_S_ (ix2 b s)) (hv : v = fun _ => 1#1)
    (hm : mask (ix3 b s 0) = 1#1) (hk : (idx (ix3 b s 0)).toInt = (k.val : ℤ)) :
    select ok (Host.gather (rowsOf n wf) x idx) fill (ix3 b s d) = x (ix2 k d) := by
  show Scalar.select (ok (ix3 b s d)) (Host.gather (rowsOf n wf) x idx (ix3 b s d)) (fill (ix3 b s d)) = _
  rw [hok, all_apply mask v h b s hv hm, gather_apply n wf x idx b s d k hk]
  rfl

end Cert.ReferenceIdeal.Lookup
-- ==== Proof.RefValue.lean ====
/-
  The reference's result at one index, from its arguments, where every token is in range of its table.
-/
module

public import proofs.«01_k».proof.Proof.Lookup
public import proofs.«01_k».proof.Proof.Reals

@[expose] public section

set_option maxRecDepth 16384

noncomputable section

namespace Cert.Spec

open Idealize.ShloMosaic

/-- The mean of a row, as the reference computes it. -/
def refMean (y : Fin 768 → EReal) : EReal := Ideal.div (0 + ∑ d, y d) ((768 : ℝ) : EReal)

/-- One entry of a normalised row, as the reference computes it. -/
def refNormed (γ β : EReal) (y : Fin 768 → EReal) (d : Fin 768) : EReal :=
  Ideal.div (y d - refMean y)
    (Ideal.sqrt (refMean (fun e => (y e - refMean y) * (y e - refMean y)) + ((guard : ℝ) : EReal))) * γ + β

end Cert.Spec

namespace Cert.ReferenceIdeal.Ref

open Idealize.ShloMosaic Idealize.ShloMosaic.TcCoe Idealize.ShloMosaic.ValueIdx
open Cert.ReferenceIdeal Cert.ReferenceIdeal.Gen Cert.ReferenceIdeal.Read

/-! ## The four lookups -/

/-! Each is `Lookup.lookup_apply` at its own table. -/

/-- The syllable token's lookup. -/
theorem lookup0_apply (x1 : (⟨S4x4096, .i32⟩ : BufTy).Contents (Elt Ideal)) (x7 : (⟨S5x768, .f32⟩ : BufTy).Contents (Elt Ideal))
    (b : Fin 4) (s : Fin 4096) (d : Fin 768) (k : Fin 5) (hk : x1 (ix2 b s) = BitVec.ofNat 32 k.val) :
    val_main_v5 (F := Ideal) x1 x7 (ix3 b s d) = x7 (ix2 k d) := by
  obtain ⟨h1, h2, h3⟩ := Lookup.words 5 ⟨k.val, by omega⟩ k.isLt (x1 (ix2 b s)) hk
  have hi : idx_main_call0_v5 (ix3 b s 0) = ix2 b s := eq_ix2 _
  have e : val_main_call0_v5 (F := Ideal) x1 (ix3 b s 0) = x1 (ix2 b s) := by
    rw [val_main_call0_v5_apply, hi, val_main_call0_v4_apply, val_main_call0_v1_apply, val_main_call0_v3_apply]
    exact h1
  refine Lookup.lookup_apply 5 _ x7 (val_main_call0_v11 (F := Ideal) x1) (val_main_call0_c_3 (F := Ideal))
    (val_main_call0_v5 (F := Ideal) x1) _ reducesTo_S4x4096x1_S4x4096_d2 _ b s d k ?_ rfl ?_ ?_
  · rw [val_main_call0_v14_apply]
    exact congrArg (val_main_call0_v12 (F := Ideal) x1) (eq_ix2 _)
  · rw [val_main_call0_v11_apply, val_main_call0_v7_apply, val_main_call0_v10_apply, e]; exact h2
  · rw [e]; exact h3

/-- The syllable boundary's lookup. -/
theorem lookup1_apply (x2 : (⟨S4x4096, .i32⟩ : BufTy).Contents (Elt Ideal)) (x8 : (⟨S2x768, .f32⟩ : BufTy).Contents (Elt Ideal))
    (b : Fin 4) (s : Fin 4096) (d : Fin 768) (k : Fin 2) (hk : x2 (ix2 b s) = BitVec.ofNat 32 k.val) :
    val_main_v7 (F := Ideal) x2 x8 (ix3 b s d) = x8 (ix2 k d) := by
  obtain ⟨h1, h2, h3⟩ := Lookup.words 2 ⟨k.val, by omega⟩ k.isLt (x2 (ix2 b s)) hk
  have hi : idx_main_call1_v5 (ix3 b s 0) = ix2 b s := eq_ix2 _
  have e : val_main_call1_v5 (F := Ideal) x2 (ix3 b s 0) = x2 (ix2 b s) := by
    rw [val_main_call1_v5_apply, hi, val_main_call1_v4_apply, val_main_call1_v1_apply, val_main_call1_v3_apply]
    exact h1
  refine Lookup.lookup_apply 2 _ x8 (val_main_call1_v11 (F := Ideal) x2) (val_main_call1_c_3 (F := Ideal))
    (val_main_call1_v5 (F := Ideal) x2) _ reducesTo_S4x4096x1_S4x4096_d2 _ b s d k ?_ rfl ?_ ?_
  · rw [val_main_call1_v14_apply]
    exact congrArg (val_main_call1_v12 (F := Ideal) x2) (eq_ix2 _)
  · rw [val_main_call1_v11_apply, val_main_call1_v7_apply, val_main_call1_v10_apply, e]; exact h2
  · rw [e]; exact h3

/-- The word token's lookup. -/
theorem lookup2_apply (x3 : (⟨S4x4096, .i32⟩ : BufTy).Contents (Elt Ideal)) (x9 : (⟨S6x768, .f32⟩ : BufTy).Contents (Elt Ideal))
    (b : Fin 4) (s : Fin 4096) (d : Fin 768) (k : Fin 6) (hk : x3 (ix2 b s) = BitVec.ofNat 32 k.val) :
    val_main_v9 (F := Ideal) x3 x9 (ix3 b s d) = x9 (ix2 k d) := by
  obtain ⟨h1, h2, h3⟩ := Lookup.words 6 ⟨k.val, by omega⟩ k.isLt (x3 (ix2 b s)) hk
  have hi : idx_main_call2_v5 (ix3 b s 0) = ix2 b s := eq_ix2 _
  have e : val_main_call2_v5 (F := Ideal) x3 (ix3 b s 0) = x3 (ix2 b s) := by
    rw [val_main_call2_v5_apply, hi, val_main_call2_v4_apply, val_main_call2_v1_apply, val_main_call2_v3_apply]
    exact h1
  refine Lookup.lookup_apply 6 _ x9 (val_main_call2_v11 (F := Ideal) x3) (val_main_call2_c_3 (F := Ideal))
    (val_main_call2_v5 (F := Ideal) x3) _ reducesTo_S4x4096x1_S4x4096_d2 _ b s d k ?_ rfl ?_ ?_
  · rw [val_main_call2_v14_apply]
    exact congrArg (val_main_call2_v12 (F := Ideal) x3) (eq_ix2 _)
  · rw [val_main_call2_v11_apply, val_main_call2_v7_apply, val_main_call2_v10_apply, e]; exact h2
  · rw [e]; exact h3

/-- The word boundary's lookup. -/
theorem lookup3_apply (x4 : (⟨S4x4096, .i32⟩ : BufTy).Contents (Elt Ideal)) (x10 : (⟨S2x768, .f32⟩ : BufTy).Contents (Elt Ideal))
    (b : Fin 4) (s : Fin 4096) (d : Fin 768) (k : Fin 2) (hk : x4 (ix2 b s) = BitVec.ofNat 32 k.val) :
    val_main_v11 (F := Ideal) x4 x10 (ix3 b s d) = x10 (ix2 k d) := by
  obtain ⟨h1, h2, h3⟩ := Lookup.words 2 ⟨k.val, by omega⟩ k.isLt (x4 (ix2 b s)) hk
  have hi : idx_main_call3_v5 (ix3 b s 0) = ix2 b s := eq_ix2 _
  have e : val_main_call3_v5 (F := Ideal) x4 (ix3 b s 0) = x4 (ix2 b s) := by
    rw [val_main_call3_v5_apply, hi, val_main_call3_v4_apply, val_main_call3_v1_apply, val_main_call3_v3_apply]
    exact h1
  refine Lookup.lookup_apply 2 _ x10 (val_main_call3_v11 (F := Ideal) x4) (val_main_call3_c_3 (F := Ideal))
    (val_main_call3_v5 (F := Ideal) x4) _ reducesTo_S4x4096x1_S4x4096_d2 _ b s d k ?_ rfl ?_ ?_
  · rw [val_main_call3_v14_apply]
    exact congrArg (val_main_call3_v12 (F := Ideal) x4) (eq_ix2 _)
  · rw [val_main_call3_v11_apply, val_main_call3_v7_apply, val_main_call3_v10_apply, e]; exact h2
  · rw [e]; exact h3

/-! ## The embedding -/

variable (x0 : (⟨S4x4096x1, .f32⟩ : BufTy).Contents (Elt Ideal)) (x1 x2 x3 x4 : (⟨S4x4096, .i32⟩ : BufTy).Contents (Elt Ideal))
  (x5 : (⟨S768x1, .f32⟩ : BufTy).Contents (Elt Ideal)) (x6 : (⟨S768, .f32⟩ : BufTy).Contents (Elt Ideal))
  (x7 : (⟨S5x768, .f32⟩ : BufTy).Contents (Elt Ideal)) (x8 : (⟨S2x768, .f32⟩ : BufTy).Contents (Elt Ideal))
  (x9 : (⟨S6x768, .f32⟩ : BufTy).Contents (Elt Ideal)) (x10 : (⟨S2x768, .f32⟩ : BufTy).Contents (Elt Ideal))
  (x11 x12 : (⟨S768, .f32⟩ : BufTy).Contents (Elt Ideal))

/-- The pitch embedding's entry. -/
theorem pitch_apply (b : Fin 4) (s : Fin 4096) (d : Fin 768) :
    val_main_v4 (F := Ideal) x0 x5 x6 (ix3 b s d) = x0 (ix3 b s 0) * x5 (ix2 d 0) + x6 (ix1 d) := by
  rw [val_main_v4_apply, val_main_v1_apply, val_main_v3_apply, val_main_v2_apply]
  simp only [Fin.sum_univ_one, val_main_v0_apply]
  have h0 : lidx_main_v1 (ix3 b s d) 0 = ix3 b s 0 := eq_ix3 _
  have h1 : idx_main_v0 (ridx_main_v1 (ix3 b s d) 0) = ix2 d 0 := eq_ix2 _
  have h2 : idx_main_v2 (idx_main_v3 (ix3 b s d)) = ix1 d := eq_ix1 _
  rw [h0, h1, h2]
  rfl

/-- The angle of position `s` in column pair `k`. -/
theorem angle_apply (s : Fin 4096) (k : Fin 384) :
    val_main_v29 (F := Ideal) (ix2 s k) = ((s.val * Spec.freq k.val : ℝ) : EReal) := by
  rw [val_main_v29_apply, val_main_v27_apply, val_main_v28_apply, val_main_v26_apply, val_main_v25_apply, val_main_v24_apply,
    val_main_v22_apply, val_main_v20_apply, val_main_v17_apply]
  simp only [val_main_v23_apply, val_main_v21_apply, val_main_v19_apply, val_main_cst_0_apply, val_main_cst_1_apply, val_main_cst_2_apply]
  refine Eq.trans (congrArg₂ _ (Spec.sitofp_ofNat s.val (by omega)) (Spec.freq_eq k.val (by omega))) (Spec.mulf_coe _ _)

/-- The interleaved encoding at an even column is a sine. -/
theorem interleaved_even (s : Fin 4096) (k : Fin 384) :
    val_main_v34 (F := Ideal) (ix3 s k 0) = ((Real.sin (s.val * Spec.freq k.val) : ℝ) : EReal) := by
  unfold val_main_v34
  refine (concatenate_pair_apply_left (t := S4096x384x2) (s₁ := S4096x384x1) (s₂ := S4096x384x1) 2 _ _ concatenates_S4096x384x1_S4096x384x1_S4096x384x2_d2
    (ix3 s k 0) rfl (ix3 s k 0) (fun a => match a with
    | ⟨0, _⟩ => rfl
    | ⟨1, _⟩ => rfl
    | ⟨2, _⟩ => rfl)).trans ?_
  have hi : idx_main_v32 (ix3 s k 0) = ix2 s k := eq_ix2 _
  rw [val_main_v32_apply, hi, val_main_v30_apply, angle_apply]
  exact Spec.sin_coe _

/-- The interleaved encoding at an odd column is a cosine. -/
theorem interleaved_odd (s : Fin 4096) (k : Fin 384) :
    val_main_v34 (F := Ideal) (ix3 s k 1) = ((Real.cos (s.val * Spec.freq k.val) : ℝ) : EReal) := by
  unfold val_main_v34
  refine (concatenate_pair_apply_right (t := S4096x384x2) (s₁ := S4096x384x1) (s₂ := S4096x384x1) 2 _ _ concatenates_S4096x384x1_S4096x384x1_S4096x384x2_d2
    (ix3 s k 1) rfl rfl (ix3 s k 0) (fun a => match a with
    | ⟨0, _⟩ => fun _ => rfl
    | ⟨1, _⟩ => fun _ => rfl
    | ⟨2, _⟩ => fun h => absurd rfl h) rfl).trans ?_
  have hi : idx_main_v33 (ix3 s k 0) = ix2 s k := eq_ix2 _
  rw [val_main_v33_apply, hi, val_main_v31_apply, angle_apply]
  exact Spec.cos_coe _

/-- The positional encoding's entry: sines in the even columns and cosines in the odd ones. -/
theorem posEnc_apply (b : Fin 4) (s : Fin 4096) (d : Fin 768) :
    val_main_v37 (F := Ideal) (ix3 b s d) = ((Spec.posEnc s.val d.val : ℝ) : EReal) := by
  have hi : idx_main_v36 (idx_main_v37 (ix3 b s d)) = ix2 s d := eq_ix2 _
  rw [val_main_v37_apply, val_main_v36_apply, hi, val_main_v35_apply]
  have hk : d.val / 2 < 384 := by omega
  have hj : idx_main_v35 (ix2 s d) = ix3 s ⟨d.val / 2, hk⟩ ⟨d.val % 2, Nat.mod_lt _ (by decide)⟩ := by
    refine (eq_ix3 _).trans ?_
    have e0 : (s.val * 768 + d.val) / 768 = s.val := by omega
    have e1 : (s.val * 768 + d.val) / 2 % 384 = d.val / 2 := by omega
    have e2 : (s.val * 768 + d.val) % 2 = d.val % 2 := by omega
    exact congr (congrArg₂ ix3 (Fin.ext e0) (Fin.ext e1)) (Fin.ext e2)
  rw [hj]
  unfold Spec.posEnc
  by_cases h : d.val % 2 = 0
  · rw [if_pos h, ← interleaved_even s ⟨d.val / 2, hk⟩]
    exact congrArg (fun z => val_main_v34 (F := Ideal) (ix3 s ⟨d.val / 2, hk⟩ z)) (Fin.ext h)
  · rw [if_neg h, ← interleaved_odd s ⟨d.val / 2, hk⟩]
    exact congrArg (fun z => val_main_v34 (F := Ideal) (ix3 s ⟨d.val / 2, hk⟩ z)) (Fin.ext (show d.val % 2 = 1 by omega))

/-- The sum of the pitch embedding and the four lookups, scaled, plus the positional encoding. -/
def row (k1 : Fin 5) (k2 : Fin 2) (k3 : Fin 6) (k4 : Fin 2) (b : Fin 4) (s : Fin 4096) (d : Fin 768) : EReal :=
  (x0 (ix3 b s 0) * x5 (ix2 d 0) + x6 (ix1 d) + x7 (ix2 k1 d) + x8 (ix2 k2 d) + x9 (ix2 k3 d) + x10 (ix2 k4 d))
    * ((Real.sqrt 768 : ℝ) : EReal) + ((Spec.posEnc s.val d.val : ℝ) : EReal)

theorem row_apply (k1 : Fin 5) (k2 : Fin 2) (k3 : Fin 6) (k4 : Fin 2) (b : Fin 4) (s : Fin 4096) (d : Fin 768)
    (h1 : x1 (ix2 b s) = BitVec.ofNat 32 k1.val) (h2 : x2 (ix2 b s) = BitVec.ofNat 32 k2.val)
    (h3 : x3 (ix2 b s) = BitVec.ofNat 32 k3.val) (h4 : x4 (ix2 b s) = BitVec.ofNat 32 k4.val) :
    val_main_v38 (F := Ideal) x0 x1 x2 x3 x4 x5 x6 x7 x8 x9 x10 (ix3 b s d) = row x0 x5 x6 x7 x8 x9 x10 k1 k2 k3 k4 b s d := by
  rw [val_main_v38_apply, val_main_v15_apply, val_main_v12_apply, val_main_v10_apply, val_main_v8_apply, val_main_v6_apply,
    pitch_apply, lookup0_apply x1 x7 b s d k1 h1, lookup1_apply x2 x8 b s d k2 h2, lookup2_apply x3 x9 b s d k3 h3,
    lookup3_apply x4 x10 b s d k4 h4, posEnc_apply, val_main_v14_apply, val_main_v13_apply, val_main_cst_apply,
    Ideal.ofBits_def, Spec.ofBits_768, Ideal.hostUnary_sqrt_def, Ideal.sqrt_coe, if_neg (by norm_num)]
  rfl

/-! ## The layer norm -/

/-- The result's entry: the row of the embedding, normalised. -/
theorem result_apply (b : Fin 4) (s : Fin 4096) (d : Fin 768) (y : Fin 768 → EReal)
    (hy : ∀ e, val_main_v38 (F := Ideal) x0 x1 x2 x3 x4 x5 x6 x7 x8 x9 x10 (ix3 b s e) = y e) :
    val_main_v62 (F := Ideal) x0 x1 x2 x3 x4 x5 x6 x7 x8 x9 x10 x11 x12 (ix3 b s d)
      = Spec.refNormed (x11 (ix1 d)) (x12 (ix1 d)) y d := by
  have hmean : val_main_v42 (F := Ideal) x0 x1 x2 x3 x4 x5 x6 x7 x8 x9 x10 (ix3 b s 0) = Spec.refMean y := by
    rw [val_main_v42_apply, val_main_v40_apply, val_main_v39_apply, val_main_v41_apply, val_main_cst_4_apply, val_main_cst_3_apply,
      Ideal.ofBits_def, Ideal.ofBits_def, Spec.ofBits_768, Ideal.ofBits_zero_f32]
    exact congrArg (fun z => Ideal.div (0 + z) _) (Finset.sum_congr rfl fun e _ =>
      (congrArg (val_main_v38 (F := Ideal) x0 x1 x2 x3 x4 x5 x6 x7 x8 x9 x10) (eq_ix3 _)).trans (hy e))
  have hdev : ∀ e, val_main_v44 (F := Ideal) x0 x1 x2 x3 x4 x5 x6 x7 x8 x9 x10 (ix3 b s e) = y e - Spec.refMean y := by
    intro e
    have hi : idx_main_v43 (ix3 b s e) = ix3 b s 0 := eq_ix3 _
    rw [val_main_v44_apply, val_main_v43_apply, hy, hi, hmean]
    rfl
  have hvar : val_main_v49 (F := Ideal) x0 x1 x2 x3 x4 x5 x6 x7 x8 x9 x10 (ix3 b s 0)
      = Spec.refMean (fun e => (y e - Spec.refMean y) * (y e - Spec.refMean y)) := by
    rw [val_main_v49_apply, val_main_v47_apply, val_main_v46_apply, val_main_v48_apply, val_main_cst_6_apply, val_main_cst_5_apply,
      Ideal.ofBits_def, Ideal.ofBits_def, Spec.ofBits_768, Ideal.ofBits_zero_f32]
    refine congrArg (fun z => Ideal.div (0 + z) _) (Finset.sum_congr rfl fun e _ => ?_)
    have hi : idx_main_v46 (idx_main_v47 (ix3 b s 0)) e = ix3 b s e := eq_ix3 _
    rw [val_main_v45_apply, hi]
    exact congrArg₂ (· * ·) (hdev e) (hdev e)
  have h50 : idx_main_v50 (ix3 b s d) = ix3 b s 0 := eq_ix3 _
  have h55 : idx_main_v55 (ix3 b s d) = ix3 b s 0 := eq_ix3 _
  have h57 : idx_main_v57 (idx_main_v58 (ix3 b s d)) = ix1 d := eq_ix1 _
  have h60 : idx_main_v60 (idx_main_v61 (ix3 b s d)) = ix1 d := eq_ix1 _
  rw [val_main_v62_apply, val_main_v59_apply, val_main_v56_apply, val_main_v51_apply, val_main_v50_apply, val_main_v55_apply,
    h50, h55, val_main_v54_apply, val_main_v53_apply, val_main_v52_apply, val_main_cst_7_apply, val_main_v58_apply, val_main_v57_apply,
    h57, val_main_v61_apply, val_main_v60_apply, h60, hy, hmean, hvar, Ideal.ofBits_def, Spec.ofBits_guard]
  rfl

end Cert.ReferenceIdeal.Ref
-- ==== Proof.Maths.lean ====
/-
  The two computations of a row agree over the real numbers.  `sum_rows` turns the kernel's sum over the sixteen table
  rows into the reference's sum of five embeddings; `normed_eq_refNormed` turns the kernel's variance, the mean of the
  squares less the square of the mean, into the reference's, the mean of the squared deviations.
-/
module

public import proofs.«01_k».proof.Proof.KernelValue
public import proofs.«01_k».proof.Proof.RefValue

@[expose] public section

noncomputable section

namespace Cert.Spec

open Idealize.ShloMosaic

/-- A finite sum of real numbers, taken in the extended reals, is the real sum. -/
theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-! ## The sum over the table rows -/

section Rows

variable (k1 : Fin 5) (k2 : Fin 2) (k3 : Fin 6) (k4 : Fin 2)

/-- The words compared with a row's number, in range of their tables, are the row's number exactly at the row they name. -/
theorem hit1 : ∀ (k : Fin 16) (a : Fin 5), BitVec.ofNat 32 k.val = BitVec.ofNat 32 a.val ↔ k.val = a.val := by decide
theorem hit2 : ∀ (k : Fin 16) (a : Fin 2), BitVec.ofNat 32 k.val = BitVec.ofNat 32 a.val + 5#32 ↔ k.val = a.val + 5 := by decide
theorem hit3 : ∀ (k : Fin 16) (a : Fin 6), BitVec.ofNat 32 k.val = BitVec.ofNat 32 a.val + 7#32 ↔ k.val = a.val + 7 := by decide
theorem hit4 : ∀ (k : Fin 16) (a : Fin 2), BitVec.ofNat 32 k.val = BitVec.ofNat 32 a.val + 13#32 ↔ k.val = a.val + 13 := by decide

/-- The coefficient of a row, as the sum of five indicators of one row each: no two of them are ever at the same row. -/
theorem coeff_eq (f0 : ℝ) (k : Fin 16) :
    coeff (BitVec.ofNat 32 k1.val) (BitVec.ofNat 32 k2.val) (BitVec.ofNat 32 k3.val) (BitVec.ofNat 32 k4.val) (f0 : EReal) k
      = (((if k.val = 15 then f0 else 0) + (if k.val = k1.val then 1 else 0) + (if k.val = k2.val + 5 then 1 else 0)
        + (if k.val = k3.val + 7 then 1 else 0) + (if k.val = k4.val + 13 then 1 else 0) : ℝ) : EReal) := by
  have h1 := k1.isLt; have h2 := k2.isLt; have h3 := k3.isLt; have h4 := k4.isLt
  unfold coeff
  simp only [hit1, hit2, hit3, hit4]
  by_cases e : k.val = 15
  · rw [if_pos e, if_pos e, if_neg (by omega), if_neg (by omega), if_neg (by omega), if_neg (by omega)]
    simp
  rw [if_neg e, if_neg e]
  by_cases e1 : k.val = k1.val
  · rw [if_pos (.inl e1), if_pos e1, if_neg (by omega), if_neg (by omega), if_neg (by omega)]; simp
  by_cases e2 : k.val = k2.val + 5
  · rw [if_pos (.inr (.inl e2)), if_neg e1, if_pos e2, if_neg (by omega), if_neg (by omega)]; simp
  by_cases e3 : k.val = k3.val + 7
  · rw [if_pos (.inr (.inr (.inl e3))), if_neg e1, if_neg e2, if_pos e3, if_neg (by omega)]; simp
  by_cases e4 : k.val = k4.val + 13
  · rw [if_pos (.inr (.inr (.inr e4))), if_neg e1, if_neg e2, if_neg e3, if_pos e4]; simp
  · rw [if_neg (by omega), if_neg e1, if_neg e2, if_neg e3, if_neg e4]; simp

/-- A sum weighted by the indicator of one row is the term at that row. -/
theorem sum_indicator (T : Fin 16 → ℝ) (a : ℕ) (ha : a < 16) (x : ℝ) :
    ∑ k : Fin 16, (if k.val = a then x else 0) * T k = x * T ⟨a, ha⟩ := by
  rw [Finset.sum_eq_single ⟨a, ha⟩ (fun k _ hk => by rw [if_neg (fun e => hk (Fin.ext e)), zero_mul])
    (fun h => absurd (Finset.mem_univ _) h), if_pos rfl]

/-- The kernel's sum over the sixteen scaled rows is the scaled sum of the pitch embedding, the bias and the four rows
    the tokens name. -/
theorem sum_rows (f0 b w : ℝ) (t1 : Fin 5 → ℝ) (t2 : Fin 2 → ℝ) (t3 : Fin 6 → ℝ) (t4 : Fin 2 → ℝ) :
    ∑ k : Fin 16, coeff (BitVec.ofNat 32 k1.val) (BitVec.ofNat 32 k2.val) (BitVec.ofNat 32 k3.val) (BitVec.ofNat 32 k4.val) (f0 : EReal) k
        * tableRow (b : EReal) (stack (fun j => (t1 j : EReal)) (fun j => (t2 j : EReal)) (fun j => (t3 j : EReal))
            (fun j => (t4 j : EReal)) (w : EReal)) k
      = (((f0 * w + b + t1 k1 + t2 k2 + t3 k3 + t4 k4) * Real.sqrt 768 : ℝ) : EReal) := by
  have h1 := k1.isLt; have h2 := k2.isLt; have h3 := k3.isLt; have h4 := k4.isLt
  -- the stacked rows as real numbers
  let S : Fin 16 → ℝ := fun k =>
    if h : k.val < 5 then t1 ⟨k.val, h⟩
    else if h : k.val - 5 < 2 then t2 ⟨k.val - 5, h⟩
    else if h : k.val - 5 - 2 < 6 then t3 ⟨k.val - 5 - 2, h⟩
    else if h : k.val - 5 - 2 - 6 < 2 then t4 ⟨k.val - 5 - 2 - 6, h⟩
    else w
  have hS : stack (fun j => (t1 j : EReal)) (fun j => (t2 j : EReal)) (fun j => (t3 j : EReal)) (fun j => (t4 j : EReal)) (w : EReal)
      = fun k => ((S k : ℝ) : EReal) := by
    funext k
    simp only [stack, S]
    split_ifs <;> rfl
  let T : Fin 16 → ℝ := fun k => S k * Real.sqrt 768 + if 5 ≤ k.val ∧ k.val < 7 then b * Real.sqrt 768 else 0
  have hT : ∀ k, tableRow (b : EReal) (fun k => ((S k : ℝ) : EReal)) k = ((T k : ℝ) : EReal) := by
    intro k
    simp only [tableRow, T]
    split_ifs <;> norm_cast
  have e0 : T ⟨15, by omega⟩ = w * Real.sqrt 768 := by simp [T, S]
  have e1 : T ⟨k1.val, by omega⟩ = t1 k1 * Real.sqrt 768 := by
    simp only [T, S]; rw [dif_pos h1, if_neg (by omega), add_zero]
  have e2 : T ⟨k2.val + 5, by omega⟩ = t2 k2 * Real.sqrt 768 + b * Real.sqrt 768 := by
    simp only [T, S]; rw [dif_neg (by omega), dif_pos (by omega), if_pos (by omega)]
    exact congrArg (fun j => t2 j * Real.sqrt 768 + b * Real.sqrt 768) (Fin.ext (Nat.add_sub_cancel ..))
  have e3 : T ⟨k3.val + 7, by omega⟩ = t3 k3 * Real.sqrt 768 := by
    simp only [T, S]; rw [dif_neg (by omega), dif_neg (by omega), dif_pos (by omega), if_neg (by omega), add_zero]
    exact congrArg (fun j => t3 j * Real.sqrt 768) (Fin.ext (by show k3.val + 7 - 5 - 2 = _; omega))
  have e4 : T ⟨k4.val + 13, by omega⟩ = t4 k4 * Real.sqrt 768 := by
    simp only [T, S]; rw [dif_neg (by omega), dif_neg (by omega), dif_neg (by omega), dif_pos (by omega), if_neg (by omega), add_zero]
    exact congrArg (fun j => t4 j * Real.sqrt 768) (Fin.ext (by show k4.val + 13 - 5 - 2 - 6 = _; omega))
  rw [hS]
  simp only [coeff_eq, hT, ← EReal.coe_mul]
  rw [coe_sum]
  congr 1
  simp only [add_mul, Finset.sum_add_distrib]
  rw [sum_indicator T 15 (by omega), sum_indicator T k1.val (by omega), sum_indicator T (k2.val + 5) (by omega),
    sum_indicator T (k3.val + 7) (by omega), sum_indicator T (k4.val + 13) (by omega), e0, e1, e2, e3, e4]
  ring

end Rows

/-! ## The layer norm -/

/-- The mean of a row of real numbers. -/
def realMean (y : Fin 768 → ℝ) : ℝ := (∑ d, y d) * (1 / 768)

theorem mean_coe (y : Fin 768 → ℝ) : mean (fun d => (y d : EReal)) = ((realMean y : ℝ) : EReal) := by
  rw [mean, ofBits_768, Ideal.div_coe (by norm_num), coe_sum, ← EReal.coe_mul, realMean]

theorem refMean_coe (y : Fin 768 → ℝ) : refMean (fun d => (y d : EReal)) = ((realMean y : ℝ) : EReal) := by
  rw [refMean, zero_add, Ideal.div_coe (by norm_num), coe_sum, ← EReal.coe_mul, realMean]

/-- The mean of the squares less the square of the mean is the mean of the squared deviations. -/
theorem variance (y : Fin 768 → ℝ) :
    realMean (fun e => y e * y e) - realMean y * realMean y = realMean (fun e => (y e - realMean y) * (y e - realMean y)) := by
  have h : ∀ μ : ℝ, ∑ e, (y e - μ) * (y e - μ) = ∑ e, y e * y e - 2 * μ * ∑ e, y e + 768 * (μ * μ) := by
    intro μ
    have : ∀ e, (y e - μ) * (y e - μ) = y e * y e - 2 * μ * y e + μ * μ := fun e => by ring
    simp only [this, Finset.sum_add_distrib, Finset.sum_sub_distrib, ← Finset.mul_sum, Finset.sum_const, Finset.card_univ,
      Fintype.card_fin, nsmul_eq_mul]
    push_cast
    ring
  show _ = (∑ e, (y e - realMean y) * (y e - realMean y)) * (1 / 768)
  rw [h]
  simp only [realMean]
  ring

/-- Such a mean is not negative. -/
theorem realMean_sq_nonneg (y : Fin 768 → ℝ) : 0 ≤ realMean (fun e => y e * y e) :=
  mul_nonneg (Finset.sum_nonneg fun e _ => mul_self_nonneg (y e)) (by norm_num)

/-- The kernel's normalised entry is the reference's, for any scale and shift and any row of real numbers. -/
theorem normed_eq_refNormed (γ β : EReal) (y : Fin 768 → ℝ) (d : Fin 768) :
    normed γ β (fun e => (y e : EReal)) d = refNormed γ β (fun e => (y e : EReal)) d := by
  have hpos : 0 < realMean (fun e => (y e - realMean y) * (y e - realMean y)) + guard :=
    add_pos_of_nonneg_of_pos (realMean_sq_nonneg fun e => y e - realMean y) guard_pos
  unfold normed refNormed
  simp only [refMean_coe, mean_coe, ← EReal.coe_mul, ← EReal.coe_sub, ofBits_guard, variance, ← EReal.coe_add]
  rw [Ideal.rsqrt_coe, Ideal.sqrt_coe, if_neg hpos.not_gt, if_neg hpos.ne', if_neg hpos.not_gt,
    Ideal.div_coe (Real.sqrt_pos.2 hpos).ne', one_div]

end Cert.Spec
-- ==== Proof.Pre.lean ====
/-
  What the precondition says, entry by entry: every token is the number of a row of its table, and every entry of the
  pitch array, of the projection's weight and bias, and of the four tables is a real number.
-/
module

public import proofs.«01_k».proof.Defs
public import Idealize.ShloMosaic.PureOps.Ideal.Laws
public import Idealize.ShloMosaic.Lib.ValueIdx

@[expose] public section

set_option maxRecDepth 8192

noncomputable section

namespace Cert.Ordinary

open Idealize.ShloMosaic Cert.Pre_ordinary

/-- The shape relations the precondition's operations take. -/
theorem facts : Cert.Pre_ordinary.Facts where
  bcast_S_S4x4096 := by decide
  bcast_S_S4x4096x1 := by decide
  bcast_S_S768x1 := by decide
  bcast_S_S768 := by decide
  bcast_S_S5x768 := by decide
  bcast_S_S2x768 := by decide
  bcast_S_S6x768 := by decide

/-- A conjunction of two flags is set exactly when both are. -/
theorem andi_flags : ∀ a b : BitVec 1, IntOp.andi a b = 1#1 → a = 1#1 ∧ b = 1#1 := by decide

/-- A word at least 0 and less than `n`, compared as signed numbers, is a row number of a table of height `n`. -/
theorem token_of_flags (n : ℕ) (hn : n < 2 ^ 31) (w : BitVec 32)
    (h : IntOp.andi (IntOp.cmpi .sge w 0#32) (IntOp.cmpi .slt w (BitVec.ofNat 32 n)) = 1#1) :
    ∃ k : Fin n, w = BitVec.ofNat 32 k.val := by
  obtain ⟨h0, h1⟩ := andi_flags _ _ h
  have e0 : (0#32).sle w = true := by
    by_contra e
    have : IntOp.cmpi .sge w 0#32 = BitVec.ofBool ((0#32).sle w) := rfl
    rw [this, Bool.eq_false_of_not_eq_true e] at h0
    exact absurd h0 (by decide)
  have e1 : w.slt (BitVec.ofNat 32 n) = true := by
    by_contra e
    have : IntOp.cmpi .slt w (BitVec.ofNat 32 n) = BitVec.ofBool (w.slt (BitVec.ofNat 32 n)) := rfl
    rw [this, Bool.eq_false_of_not_eq_true e] at h1
    exact absurd h1 (by decide)
  rw [BitVec.sle_iff_toInt_le] at e0
  rw [BitVec.slt_iff_toInt_lt, BitVec.toInt_eq_toNat_of_lt (x := BitVec.ofNat 32 n) (by rw [BitVec.toNat_ofNat]; omega),
    BitVec.toNat_ofNat, Nat.mod_eq_of_lt (by omega)] at e1
  have e2 : (0#32).toInt = 0 := by decide
  have e3 := BitVec.toInt_eq_toNat_cond w
  have hlt := w.isLt
  have e4 : w.toNat < n := by split at e3 <;> omega
  exact ⟨⟨w.toNat, e4⟩, by simp⟩

/-- A value whose absolute value compares below the printed infinity is a real number. -/
theorem real_of_flag (x : EReal)
    (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have e : FloatOps.ofBits (F := Ideal) .f32 0x7F800000#32 = (⊤ : EReal) := by
    simp [Ideal.ofBits_def, Ideal.ofBits, Ideal.ieee]
  rw [e] at h
  induction x using EReal.rec with
  | coe r => exact ⟨r, rfl⟩
  | bot => exact absurd h (by simp [Ideal.absf_def, Ideal.cmpf_def, Ideal.cmp])
  | top => exact absurd h (by simp [Ideal.absf_def, Ideal.cmpf_def, Ideal.cmp])

/-- The precondition at every entry: the tokens are row numbers and the floats are real numbers. -/
structure Holds (x0 : FVec Ideal S4x4096x1 .f32) (x1 x2 x3 x4 : IVec S4x4096 32) (x5 : FVec Ideal S768x1 .f32) (x6 : FVec Ideal S768 .f32)
    (x7 : FVec Ideal S5x768 .f32) (x8 : FVec Ideal S2x768 .f32) (x9 : FVec Ideal S6x768 .f32) (x10 : FVec Ideal S2x768 .f32) : Prop where
  token1 : ∀ i, ∃ k : Fin 5, x1 i = BitVec.ofNat 32 k.val
  token2 : ∀ i, ∃ k : Fin 2, x2 i = BitVec.ofNat 32 k.val
  token3 : ∀ i, ∃ k : Fin 6, x3 i = BitVec.ofNat 32 k.val
  token4 : ∀ i, ∃ k : Fin 2, x4 i = BitVec.ofNat 32 k.val
  real0 : ∀ i, ∃ r : ℝ, x0 i = (r : EReal)
  real5 : ∀ i, ∃ r : ℝ, x5 i = (r : EReal)
  real6 : ∀ i, ∃ r : ℝ, x6 i = (r : EReal)
  real7 : ∀ i, ∃ r : ℝ, x7 i = (r : EReal)
  real8 : ∀ i, ∃ r : ℝ, x8 i = (r : EReal)
  real9 : ∀ i, ∃ r : ℝ, x9 i = (r : EReal)
  real10 : ∀ i, ∃ r : ℝ, x10 i = (r : EReal)

attribute [local instance] facts

/-- The stated precondition says so of the kernel's arguments, on every device. -/
theorem holds (m : (ℓ : Loc Cert.KernelIdeal.nD Cert.KernelIdeal.τ Cert.KernelIdeal.sig) → Buf (Elt Ideal) ℓ)
    (h : Cert.Pre_KernelIdeal_ordinary m) (c : Dev Cert.KernelIdeal.nD) :
    Holds
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
       (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
       (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
       (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  obtain ⟨h1, h2, h3, h4, h0, h5, h6, h7, h8, h9, h10⟩ := h c
  exact {
    token1 := fun i => token_of_flags 5 (by decide) _ (congrFun h1 i)
    token2 := fun i => token_of_flags 2 (by decide) _ (congrFun h2 i)
    token3 := fun i => token_of_flags 6 (by decide) _ (congrFun h3 i)
    token4 := fun i => token_of_flags 2 (by decide) _ (congrFun h4 i)
    real0 := fun i => real_of_flag _ (congrFun h0 i)
    real5 := fun i => real_of_flag _ (congrFun h5 i)
    real6 := fun i => real_of_flag _ (congrFun h6 i)
    real7 := fun i => real_of_flag _ (congrFun h7 i)
    real8 := fun i => real_of_flag _ (congrFun h8 i)
    real9 := fun i => real_of_flag _ (congrFun h9 i)
    real10 := fun i => real_of_flag _ (congrFun h10 i) }

end Cert.Ordinary
-- ==== Proof.Result.lean ====
/-
  The kernel's result array and the reference's result are one array, wherever the precondition holds.
-/
module

public import proofs.«01_k».proof.Proof.Maths
public import proofs.«01_k».proof.Proof.Pre

@[expose] public section

set_option maxRecDepth 16384

noncomputable section

namespace Cert.Result

open Idealize.ShloMosaic hiding ix0 ix1 ix2 ix3
open Idealize.ShloMosaic.TcCoe Idealize.ShloMosaic.ValueIdx
open Cert.KernelIdeal Cert.KernelIdeal.Gen

variable (m : (ℓ : Loc nD τ sig) → Buf (Elt Ideal) ℓ) (c : Dev nD)

/-- The kernel's embedding of a position is the reference's, and a row of real numbers. -/
theorem row_eq
    (h : Ordinary.Holds
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)))
    (b : Fin 4) (s : Fin 4096) :
    ∃ y : Fin 768 → ℝ, Array.row m c b s = (fun d => (y d : EReal)) ∧
      ∀ d, ReferenceIdeal.Read.val_main_v38 (F := Ideal)
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (ix3 b s d) = (y d : EReal) := by
  obtain ⟨k1, e1⟩ := h.token1 (ix2 b s)
  obtain ⟨k2, e2⟩ := h.token2 (ix2 b s)
  obtain ⟨k3, e3⟩ := h.token3 (ix2 b s)
  obtain ⟨k4, e4⟩ := h.token4 (ix2 b s)
  obtain ⟨f0, r0⟩ := h.real0 (ix3 b s 0)
  choose w r5 using fun d : Fin 768 => h.real5 (ix2 d 0)
  choose bias r6 using fun d : Fin 768 => h.real6 (ix1 d)
  choose t1 r7 using fun (k : Fin 5) (d : Fin 768) => h.real7 (ix2 k d)
  choose t2 r8 using fun (k : Fin 2) (d : Fin 768) => h.real8 (ix2 k d)
  choose t3 r9 using fun (k : Fin 6) (d : Fin 768) => h.real9 (ix2 k d)
  choose t4 r10 using fun (k : Fin 2) (d : Fin 768) => h.real10 (ix2 k d)
  refine ⟨fun d => (f0 * w d + bias d + t1 k1 d + t2 k2 d + t3 k3 d + t4 k4 d) * Real.sqrt 768 + Spec.posEnc s.val d.val, ?_, ?_⟩
  · funext d
    have hsum := Spec.sum_rows k1 k2 k3 k4 f0 (bias d) (w d) (fun k => t1 k d) (fun k => t2 k d) (fun k => t3 k d) (fun k => t4 k d)
    unfold Array.row Array.stackCol
    rw [e1, e2, e3, e4, r0, r6 d, r5 d, funext fun k => r7 k d, funext fun k => r8 k d, funext fun k => r9 k d,
      funext fun k => r10 k d, hsum, ← EReal.coe_add]
  · intro d
    rw [ReferenceIdeal.Ref.row_apply _ _ _ _ _ _ _ _ _ _ _ k1 k2 k3 k4 b s d e1 e2 e3 e4, ReferenceIdeal.Ref.row, r0, r5 d, r6 d,
      r7 k1 d, r8 k2 d, r9 k3 d, r10 k4 d]
    norm_cast

/-- The kernel's result and the reference's agree at every entry. -/
theorem entry_eq
    (h : Ordinary.Holds
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)))
    (b : Fin 4) (s : Fin 4096) (d : Fin 768) :
    (dats m 0 c).arrAt 10 cfg0.N (ix3 b s d) = ReferenceIdeal.Read.val_main_v62 (F := Ideal)
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix3 b s d) := by
  obtain ⟨y, hk, hr⟩ := row_eq m c h b s
  rw [Array.final_apply, ReferenceIdeal.Ref.result_apply _ _ _ _ _ _ _ _ _ _ _ _ _ b s d _ hr, ← Spec.normed_eq_refNormed, ← hk]

/-- Two arrays of the result's shape that agree at every entry are one array. -/
theorem ext_entries (f g : S4x4096x768.Idx → EReal) (h : ∀ b s d, f (ix3 b s d) = g (ix3 b s d)) : f = g := by
  funext j
  rw [ValueIdx.eq_ix3 j]
  exact h _ _ _

/-- The kernel's result array is the reference's result of the same arguments. -/
theorem result_eq
    (h : Ordinary.Holds
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))) :
    (dats m 0 c).arrAt 10 cfg0.N = ReferenceIdeal.Read.val_main_v62 (F := Ideal)
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  exact ext_entries _ _ (entry_eq m c h)

end Cert.Result
-- ==== Proof.Claims.lean ====
/-
  The claims, each from the generated runs and from the equation of the two results.
-/
module

public import proofs.«01_k».proof.Proof.Result
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Lib.Quiescent

@[expose] public section

noncomputable section

namespace Cert.Proof.Claims

open Idealize.ShloMosaic Idealize.ShloMosaic.TcCoe Idealize.SL.Sem

attribute [local instance] Cert.Ordinary.facts

/-- The kernel terminates without fault, its arguments unchanged and its counters at zero. -/
theorem kernel_frame : Cert.quiescent_Kernel := fun m ρ _ => Cert.Kernel.Gen.frame m ρ

/-- So does the ideal kernel, -/
theorem ideal_frame : Cert.quiescent_KernelIdeal := fun m ρ _ => Cert.KernelIdeal.Gen.frame m ρ

/-- in particular where the precondition holds. -/
theorem ideal_frame_pre : Cert.quiescent_KernelIdeal_pre_ordinary := fun m ρ _ => Cert.KernelIdeal.Gen.frame m ρ

/-- So does the ideal reference, -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- in particular where the precondition holds. -/
theorem reference_frame_pre : Cert.quiescent_ReferenceIdeal_pre_ordinary := fun m ρ _ => reference_frame m ρ trivial

/-- The kernel's literal for `√768` is the real number it is named for. -/
theorem named : Cert.preserves_Kernel_KernelIdeal :=
  IdealRules.named_const.statement Cert.KernelIdeal.κ "sqrt_d" .f32 0x41DDB3D7#32 ((Real.sqrt 768 : ℝ) : EReal) rfl

/-- Kernel and reference compute the same function of ordinary arguments over the extended reals. -/
theorem values : Cert.algebraic_KernelIdeal_ReferenceIdeal_pre_ordinary := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v62_eq, a0, a1, a2, a3, a4, a5, a6, a7, a8, a9, a10, a11, a12]
  exact (Cert.Result.result_eq m c (Cert.Ordinary.holds m hpre c)).symm

end Cert.Proof.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Claims

/-- All the claims. -/
theorem claim : Cert.Claim :=
  ⟨Cert.Kernel.Gen.facts, Cert.KernelIdeal.Gen.facts, Cert.ReferenceIdeal.Gen.facts, Cert.Ordinary.facts,
    kernel_frame, ideal_frame, ideal_frame_pre, reference_frame, reference_frame_pre, named, values⟩

end Cert.Proof

end
